-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_parts_small_KernelIdeal [hPre_parts_small_KernelIdeal : Cert.Pre_parts_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_parts_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_parts_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_parts_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_parts_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_parts_small_ReferenceIdeal [hPre_parts_small_ReferenceIdeal : Cert.Pre_parts_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_parts_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_parts_small_KernelIdeal [hKernelIdeal : Cert.KernelIdeal.Facts] [hPre_parts_small_KernelIdeal : Cert.Pre_parts_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_parts_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_parts_small_ReferenceIdeal [hReferenceIdeal : Cert.ReferenceIdeal.Facts] [hPre_parts_small_ReferenceIdeal : Cert.Pre_parts_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_parts_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_parts_small_KernelIdeal [hKernelIdeal : Cert.KernelIdeal.Facts] [hReferenceIdeal : Cert.ReferenceIdeal.Facts] [hPre_parts_small_KernelIdeal : Cert.Pre_parts_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_parts_small_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v7) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_parts_small_KernelIdeal : Cert.Pre_parts_small_KernelIdeal.Facts) (hPre_parts_small_ReferenceIdeal : Cert.Pre_parts_small_ReferenceIdeal.Facts),
    quiescent_Kernel (hKernel := hKernel)
    ∧ quiescent_KernelIdeal (hKernelIdeal := hKernelIdeal)
    ∧ quiescent_KernelIdeal_pre_parts_small_KernelIdeal (hKernelIdeal := hKernelIdeal) (hPre_parts_small_KernelIdeal := hPre_parts_small_KernelIdeal)
    ∧ quiescent_ReferenceIdeal (hReferenceIdeal := hReferenceIdeal)
    ∧ quiescent_ReferenceIdeal_pre_parts_small_ReferenceIdeal (hReferenceIdeal := hReferenceIdeal) (hPre_parts_small_ReferenceIdeal := hPre_parts_small_ReferenceIdeal)
    ∧ quiescent_UnclippedIdeal (hUnclippedIdeal := hUnclippedIdeal)
    ∧ preserves_Kernel_KernelIdeal
    ∧ algebraic_KernelIdeal_ReferenceIdeal_pre_parts_small_KernelIdeal (hKernelIdeal := hKernelIdeal) (hReferenceIdeal := hReferenceIdeal) (hPre_parts_small_KernelIdeal := hPre_parts_small_KernelIdeal)
    ∧ algebraic_KernelIdeal_UnclippedIdeal (hKernelIdeal := hKernelIdeal) (hUnclippedIdeal := hUnclippedIdeal)
-- ==== Pre_parts_small_KernelIdeal.lean ====
abbrev S1024x256 : Shape := ⟨2, ![1024, 256]⟩
abbrev S1024x1024 : Shape := ⟨2, ![1024, 1024]⟩
abbrev S256x1024 : Shape := ⟨2, ![256, 1024]⟩
abbrev S_ : Shape := ⟨0, ![]⟩

class Facts : Prop where
  bitsLt_bf16_f32 : FTy.bits .bf16 < FTy.bits .f32
  slices_S1024x1024_S256x1024_0_0 : S1024x1024.Slices ![0, 0] S256x1024
  bcast_S_S1024x1024 : S_.BroadcastsInDim S1024x1024 (![] : Fin 0 → Fin S1024x1024.rank)
  slices_S1024x1024_S256x1024_256_0 : S1024x1024.Slices ![256, 0] S256x1024
  slices_S1024x1024_S256x1024_512_0 : S1024x1024.Slices ![512, 0] S256x1024
  slices_S1024x1024_S256x1024_768_0 : S1024x1024.Slices ![768, 0] S256x1024
  dot_S1024x256_S256x1024_S1024x1024_1_0_0_1_n_n_wf : DotDims.WF S1024x256 S256x1024 S1024x1024 [1] [0] [0] [1] [] []

variable [Facts]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def fn_part1 {F : FTy → Type} [FloatOps F] (main_v6 : IVec S1024x1024 1) (main_v11 : IVec S1024x1024 1) (main_v16 : IVec S1024x1024 1) (main_v19 : FVec F S1024x1024 .f32) (main_cst_2 : FVec F S_ .f32) : IVec S1024x1024 1 × IVec S1024x1024 1 × IVec S1024x1024 1 × IVec S1024x1024 1 :=
  let main_v20 : FVec F S1024x1024 .f32 := broadcastInDim S1024x1024 ![] bcast_S_S1024x1024 main_cst_2
  let main_v21 : IVec S1024x1024 1 := cmpf .ole main_v19 main_v20
  (main_v6, main_v11, main_v16, main_v21)

def fn {F : FTy → Type} [FloatOps F] (main_arg0 : FVec F S1024x256 .bf16) (main_arg1 : FVec F S1024x1024 .bf16) : IVec S1024x1024 1 × IVec S1024x1024 1 × IVec S1024x1024 1 × IVec S1024x1024 1 :=
  let main_v0 : FVec F S1024x256 .f32 := (extf .f32 · bitsLt_bf16_f32) main_arg0
  let main_v1 : FVec F S1024x1024 .f32 := (extf .f32 · bitsLt_bf16_f32) main_arg1
  let main_v2 : FVec F S256x1024 .f32 := (extractStridedSlice S256x1024 ![0, 0] · slices_S1024x1024_S256x1024_0_0) main_v1
  let main_v3 : FVec F S1024x1024 .f32 := (fun l r => Host.dotGeneral dot_S1024x256_S256x1024_S1024x1024_1_0_0_1_n_n none l r) main_v0 main_v2
  let main_v4 : FVec F S1024x1024 .f32 := Host.absf main_v3
  let main_cst : FVec F S_ .f32 := constant S_ .f32 0x41700000#32
  let main_v5 : FVec F S1024x1024 .f32 := broadcastInDim S1024x1024 ![] bcast_S_S1024x1024 main_cst
  let main_v6 : IVec S1024x1024 1 := cmpf .ole main_v4 main_v5
  let main_v7 : FVec F S256x1024 .f32 := (extractStridedSlice S256x1024 ![256, 0] · slices_S1024x1024_S256x1024_256_0) main_v1
  let main_v8 : FVec F S1024x1024 .f32 := (fun l r => Host.dotGeneral dot_S1024x256_S256x1024_S1024x1024_1_0_0_1_n_n none l r) main_v0 main_v7
  let main_v9 : FVec F S1024x1024 .f32 := Host.absf main_v8
  let main_cst_0 : FVec F S_ .f32 := constant S_ .f32 0x41700000#32
  let main_v10 : FVec F S1024x1024 .f32 := broadcastInDim S1024x1024 ![] bcast_S_S1024x1024 main_cst_0
  let main_v11 : IVec S1024x1024 1 := cmpf .ole main_v9 main_v10
  let main_v12 : FVec F S256x1024 .f32 := (extractStridedSlice S256x1024 ![512, 0] · slices_S1024x1024_S256x1024_512_0) main_v1
  let main_v13 : FVec F S1024x1024 .f32 := (fun l r => Host.dotGeneral dot_S1024x256_S256x1024_S1024x1024_1_0_0_1_n_n none l r) main_v0 main_v12
  let main_v14 : FVec F S1024x1024 .f32 := Host.absf main_v13
  let main_cst_1 : FVec F S_ .f32 := constant S_ .f32 0x41700000#32
  let main_v15 : FVec F S1024x1024 .f32 := broadcastInDim S1024x1024 ![] bcast_S_S1024x1024 main_cst_1
  let main_v16 : IVec S1024x1024 1 := cmpf .ole main_v14 main_v15
  let main_v17 : FVec F S256x1024 .f32 := (extractStridedSlice S256x1024 ![768, 0] · slices_S1024x1024_S256x1024_768_0) main_v1
  let main_v18 : FVec F S1024x1024 .f32 := (fun l r => Host.dotGeneral dot_S1024x256_S256x1024_S1024x1024_1_0_0_1_n_n none l r) main_v0 main_v17
  let main_v19 : FVec F S1024x1024 .f32 := Host.absf main_v18
  let main_cst_2 : FVec F S_ .f32 := constant S_ .f32 0x41700000#32
  fn_part1 (F := F) main_v6 main_v11 main_v16 main_v19 main_cst_2
-- ==== Pre_parts_small_ReferenceIdeal.lean ====
abbrev S1024x1024 : Shape := ⟨2, ![1024, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .bf16) (main_arg1 : FVec F S1024x1024 .bf16) : IVec S1024x1024 1 :=
  let main_v0 : FVec F S1024x1024 .f32 := (extf .f32 · bitsLt_bf16_f32) main_arg0
  let main_v1 : FVec F S1024x1024 .f32 := (extf .f32 · bitsLt_bf16_f32) main_arg1
  let main_v2 : FVec F S1024x1024 .f32 := (fun l r => Host.dotGeneral dot_S1024x1024_S1024x1024_S1024x1024_1_0_0_1_n_n none l r) main_v0 main_v1
  let main_v3 : FVec F S1024x1024 .f32 := Host.absf main_v2
  let main_cst : FVec F S_ .f32 := constant S_ .f32 0x42700000#32
  let main_v4 : FVec F S1024x1024 .f32 := broadcastInDim S1024x1024 ![] bcast_S_S1024x1024 main_cst
  let main_v5 : IVec S1024x1024 1 := cmpf .ole main_v3 main_v4
  main_v5
-- ==== Kernel.lean ====
abbrev S1024x256 : Shape := ⟨2, ![1024, 256]⟩
abbrev S1024x1024 : Shape := ⟨2, ![1024, 1024]⟩
abbrev S256x1024 : Shape := ⟨2, ![256, 1024]⟩
abbrev S3x256x256 : Shape := ⟨3, ![3, 256, 256]⟩
abbrev S3 : Shape := ⟨1, ![3]⟩
abbrev S_ : Shape := ⟨0, ![]⟩
abbrev S1 : Shape := ⟨1, ![1]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x256, .bf16⟩
  | .hbm, ⟨1, _⟩ => ⟨S1024x1024, .bf16⟩
  | .hbm, ⟨2, _⟩ => ⟨S256x1024, .f32⟩
  | .local _ .vmem, ⟨0, _⟩ => ⟨S1024x256, .bf16⟩
  | .local _ .vmem, ⟨1, _⟩ => ⟨S1024x1024, .bf16⟩
  | .local _ .vmem, ⟨2, _⟩ => ⟨S256x1024, .f32⟩
  | .local _ .vmem, ⟨3, _⟩ => ⟨S1024x256, .bf16⟩
  | .local _ .vmem, ⟨4, _⟩ => ⟨S1024x1024, .bf16⟩
  | .local _ .vmem, ⟨5, _⟩ => ⟨S3x256x256, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v21 : BitVec 32 := Scalar.addi v2 c1_i32_16
  let c4_i32_17 : BitVec 32 := 4#32
  let v22 : BitVec 32 := Scalar.remsi v21 c4_i32_17
  let c256_i32 : BitVec 32 := 256#32
  let v23 : BitVec 32 := Scalar.muli v22 c256_i32
  let c0_i32_25 : BitVec 32 := 0#32
  ![v23.toNat, 0]
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v21 : BitVec 32 := Scalar.addi v2 c1_i32_16
  let c4_i32_17 : BitVec 32 := 4#32
  let v22 : BitVec 32 := Scalar.remsi v21 c4_i32_17
  let c1_i32_21 : BitVec 32 := 1#32
  let v24 : BitVec 32 := Scalar.muli v22 c1_i32_21
  let v25 : BitVec 32 := Scalar.addi c0_i32_22 v24
  v25.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_26 : BitVec 32 := 2#32
  let v33 : BitVec 32 := Scalar.addi v2 c2_i32_26
  let c4_i32_27 : BitVec 32 := 4#32
  let v34 : BitVec 32 := Scalar.remsi v33 c4_i32_27
  let c1_i32_32 : BitVec 32 := 1#32
  let v36 : BitVec 32 := Scalar.muli v34 c1_i32_32
  let v37 : BitVec 32 := Scalar.addi c0_i32_33 v36
  v37.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_37 : BitVec 32 := 3#32
  let v45 : BitVec 32 := Scalar.addi v2 c3_i32_37
  let c4_i32_38 : BitVec 32 := 4#32
  let v46 : BitVec 32 := Scalar.remsi v45 c4_i32_38
  let c1_i32_43 : BitVec 32 := 1#32
  let v48 : BitVec 32 := Scalar.muli v46 c1_i32_43
  let v49 : BitVec 32 := Scalar.addi c0_i32_44 v48
  v49.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_52 : BitVec 32 := 256#32
  let v62 : BitVec 32 := Scalar.muli v2 c256_i32_52
  let v63 : Index := Scalar.indexCast v62
  let c0_53 : Index := 0#32
  ![v63.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_54 : BitVec 32 := 256#32
  let v65 : BitVec 32 := Scalar.muli v2 c256_i32_54
  let v66 : Index := Scalar.indexCast v65
  let c0_55 : Index := 0#32
  ![v66.toNat, 0]
def k0_off4 (d0 : Dev nD) (c1_i32_64 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v76 : BitVec 32 := Scalar.subi v2 c1_i32_64
  let c4_i32_65 : BitVec 32 := 4#32
  let v77 : BitVec 32 := Scalar.addi v76 c4_i32_65
  let c4_i32_66 : BitVec 32 := 4#32
  let v78 : BitVec 32 := Scalar.remsi v77 c4_i32_66
  let c256_i32_70 : BitVec 32 := 256#32
  let v81 : BitVec 32 := Scalar.muli v78 c256_i32_70
  let v82 : Index := Scalar.indexCast v81
  let c0_71 : Index := 0#32
  ![v82.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== UnclippedIdeal.lean ====
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.KernelIdealProtocol.lean ====
/-
# The exchange's protocol: devices, cells, what each hand-over carries, and who owes what

Device `c` sends three blocks of rows of its own copy of `x`, one to each other device: block `e` (of three) goes to
the device `e + 1` places on and lands in that device's slot `e`. Before any block is sent every device tells the other
three, over the runtime's barrier semaphore, that its slots are free.

The protocol is stated over the rounds library with duties named by the slot, `Fin 3`. A barrier cell has the three
duties; duty `e` is paid by the device that will be sent slot `e`'s block, and carries that device's slot `e`. A send
cell has one duty, which carries the sent rows back; a receive cell has one, which carries the slot holding the rows
that were sent.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the staging pipeline's rounds beside the exchange's -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

variable (m : (ℓ : Loc nD τ sig) → Buf (Elt F) ℓ) (ρ : Dev nD → PrngReg)

/-- The state at launch: the given memory and registers, every semaphore at zero. -/
def s₀ : MemSt nD τ sig (Elt F) := ⟨m, fun _ => 0, ρ⟩

/-! ## Who sends to whom -/

set_option backward.proofsInPublic true in
/-- The device `e + 1` places after `c`: the one `c` sends its block `e` to. -/
def fwd (e : Fin 3) (c : Dev nD) : Dev nD := ⟨(c.val + e.val + 1) % 4, Nat.mod_lt _ (by decide)⟩
set_option backward.proofsInPublic true in
/-- The device `e + 1` places before `c`: the one whose block lands in `c`'s slot `e`. -/
def bwd (e : Fin 3) (c : Dev nD) : Dev nD := ⟨((c.val + 3) - e.val) % 4, Nat.mod_lt _ (by decide)⟩

theorem bwd_fwd (e : Fin 3) (c : Dev nD) : bwd e (fwd e c) = c := by revert e c; decide
theorem fwd_bwd (e : Fin 3) (c : Dev nD) : fwd e (bwd e c) = c := by revert e c; decide

/-- The two as one permutation of the devices, per slot. -/
def turn (e : Fin 3) : Dev nD ≃ Dev nD := ⟨fwd e, bwd e, bwd_fwd e, fwd_bwd e⟩

theorem eq_fwd_iff {e : Fin 3} {a b : Dev nD} : a = fwd e b ↔ b = bwd e a :=
  ⟨fun h => by rw [h, bwd_fwd], fun h => by rw [h, fwd_bwd]⟩

/-- The first signal goes one place on, which is three places back; the second and the third likewise. -/
theorem dev1_eq (c : Dev nD) : (⟨k0_dev1 c, k0_dev1_lt c⟩ : Dev nD) = bwd 2 c :=
  Fin.ext ((k0_dev1_eq c).trans (by revert c; decide))
theorem dev2_eq (c : Dev nD) : (⟨k0_dev2 c, k0_dev2_lt c⟩ : Dev nD) = bwd 1 c :=
  Fin.ext ((k0_dev2_eq c).trans (by revert c; decide))
theorem dev3_eq (c : Dev nD) : (⟨k0_dev3 c, k0_dev3_lt c⟩ : Dev nD) = bwd 0 c :=
  Fin.ext ((k0_dev3_eq c).trans (by revert c; decide))
/-- The three copies go one, two and three places on. -/
theorem dev4_eq (c : Dev nD) : (⟨k0_dev4 c, k0_dev4_lt c⟩ : Dev nD) = fwd 0 c := Fin.ext (k0_dev4_eq c)
theorem dev5_eq (c : Dev nD) : (⟨k0_dev5 c, k0_dev5_lt c⟩ : Dev nD) = fwd 1 c := Fin.ext (k0_dev5_eq c)
theorem dev6_eq (c : Dev nD) : (⟨k0_dev6 c, k0_dev6_lt c⟩ : Dev nD) = fwd 2 c := Fin.ext (k0_dev6_eq c)

/-! ## Buffers and semaphores -/

abbrev xM : Memref sig .tc .vmem S1024x256 .bf16 := Memref.whole cc0_stg0_0
abbrev wM : Memref sig .tc .vmem S1024x1024 .bf16 := Memref.whole cc0_stg1_0
abbrev oM : Memref sig .tc .vmem S256x1024 .f32 := Memref.whole cc0_stg2_0
abbrev xbM : Memref sig .tc .vmem S1024x256 .bf16 := Memref.whole cc0_scratch0
abbrev wbM : Memref sig .tc .vmem S1024x1024 .bf16 := Memref.whole cc0_scratch1
abbrev commM : Memref sig .tc .vmem S3x256x256 .bf16 := Memref.whole cc0_scratch2

theorem slot_inb (e : Fin 3) : ∀ a : Fin S3x256x256.rank, (![e.val, 0, 0] : Fin 3 → ℕ) a + S1x256x256.size a ≤ S3x256x256.size a := by
  revert e; decide
/-- Slot `e` as a rectangle of the landing buffer, and as the 256 by 256 buffer a copy lands in. -/
abbrev slotR (e : Fin 3) : Rect S3x256x256 := Rect.unit (s := S3x256x256) ![e.val, 0, 0] S1x256x256.size (slot_inb e)
abbrev slotM (e : Fin 3) : Memref sig .tc .vmem S256x256 .bf16 :=
  (commM.slice (slotR e) (fun _ => rfl)).squeeze S256x256 squeezes_S1x256x256_S256x256

/-- The rows of its copy of `x` that device `c` sends as block `e`: the 256 rows that belong to `fwd e c`. -/
abbrev rowR (c : Dev nD) (e : Fin 3) : Rect S1024x256 :=
  Rect.unit (s := S1024x256) (k0_off1 c (BitVec.ofNat 32 (1 + e.val))) S256x256.size (k0_off1_inb c e)
abbrev rowM (c : Dev nD) (e : Fin 3) : Memref sig .tc .vmem S256x256 .bf16 := xbM.slice (rowR c e) (fun _ => rfl)

/-- The barrier's semaphore, and the semaphores of the copies' two ends. -/
abbrev barS : Sem sig := (SemArray.scalar (sig.barrier 0 rfl) : Sems sig S_).sem
theorem s3_inb (e : Fin 3) : ∀ a : Fin S3.rank, (![e.val] : Fin 1 → ℕ) a + S1.size a ≤ S3.size a := by revert e; decide
abbrev sendS (e : Fin 3) : DmaSem sig := ((cc0_scratch3.slice (Rect.unit (s := S3) ![e.val] S1.size (s3_inb e))).squeeze S_ squeezes_S1_S_).sem
abbrev recvS (e : Fin 3) : DmaSem sig := ((cc0_scratch4.slice (Rect.unit (s := S3) ![e.val] S1.size (s3_inb e))).squeeze S_ squeezes_S1_S_).sem

abbrev barCell (c : Dev nD) : GSem nD τ sig := ((c : Thread nD τ), .reg barS)
abbrev sendCell (e : Fin 3) (c : Dev nD) : GSem nD τ sig := ((c : Thread nD τ), .dma (sendS e))
abbrev recvCell (e : Fin 3) (c : Dev nD) : GSem nD τ sig := ((c : Thread nD τ), .dma (recvS e))

theorem sendS_val (e : Fin 3) : (sendS e).val = 3 + e.val := by revert e; decide
theorem recvS_val (e : Fin 3) : (recvS e).val = 6 + e.val := by revert e; decide

/-- The kernel's own six semaphores, and with the barrier's the seven of the exchange. -/
abbrev osem : Fin 6 → SemLoc sig := fun
  | 0 => .dma (sendS 0) | 1 => .dma (sendS 1) | 2 => .dma (sendS 2) | 3 => .dma (recvS 0) | 4 => .dma (recvS 1) | 5 => .dma (recvS 2)
abbrev csem : Fin 7 → SemLoc sig := fun
  | 0 => .reg barS
  | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)
/-- Where slot `e`'s send and receive cells stand among the seven. -/
def ksend : Fin 3 → Fin 7 := ![1, 2, 3]
def krecv : Fin 3 → Fin 7 := ![4, 5, 6]

/-- What one copy's completion counts for. -/
abbrev N : ℕ := (slotM 0).view.dmaCredit
theorem N_pos : 0 < N := View.dmaCredit_pos _ (by decide)

/-! ## Contents -/

/-- Device `c`'s columns of `x` and its copy of `w`, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The block device `c` receives in slot `e`: the rows of `x` that are `c`'s, in the columns of `bwd e c`. -/
def blk (e : Fin 3) (c : Dev nD) : Vec F S256x256 .bf16 := (rowM (bwd e c) e).view.read (Elt F) (xstg m ρ (bwd e c))

/-- Slot `e` of device `c`, at contents `f`. -/
def slotPts (c : Dev nD) (e : Fin 3) (f : Buf (Elt F) ((slotM e).view.loc (c : Thread nD τ))) : sProp 𝕄 :=
  (slotM e).view.loc (c : Thread nD τ) ↦[(slotM e).view.set]{fullShare} f
/-- The rows device `c` sends as block `e`, holding what they were given. -/
def rowPts (c : Dev nD) (e : Fin 3) : sProp 𝕄 :=
  (rowM c e).view.loc (c : Thread nD τ) ↦[(rowM c e).view.set]{fullShare} (xstg m ρ c)

omit [FloatOps F] in
instance slotPts_storable (c : Dev nD) (e : Fin 3) (f) : BI.Storable (upEmb : UEmb _ 𝕄) (slotPts (F := F) c e f) := by
  unfold slotPts; infer_instance
omit [FloatOps F] in
instance rowPts_storable (c : Dev nD) (e : Fin 3) : BI.Storable (upEmb : UEmb _ 𝕄) (rowPts (F := F) m ρ c e) := by
  unfold rowPts; infer_instance

/-! ## The schedule -/

/-- What duty `e` of `p`'s barrier cell carries: slot `e` of the device `p` sends block `e` to, and that this device is at
    the start of its receive cell. -/
def barPay (e : Fin 3) (p : Dev nD) : sProp 𝕄 := iprop((∃ f, slotPts (fwd e p) e f) ∗ reached ER (recvCell e (fwd e p)) 0)
/-- What a receive cell's duty carries: the slot, reading as the block. -/
def recvPay (e : Fin 3) (c : Dev nD) : sProp 𝕄 := iprop(∃ f, ⌜(slotM e).view.read (Elt F) f = blk m ρ e c⌝ ∗ slotPts c e f)

/-- The slot a copy's semaphore is for. -/
def slotOf (q : DmaSem sig) : Fin 3 := ⟨q.val % 3, Nat.mod_lt _ (by decide)⟩
theorem slotOf_send (e : Fin 3) : slotOf (sendS e) = e := by revert e; decide
theorem slotOf_recv (e : Fin 3) : slotOf (recvS e) = e := by revert e; decide

/-- One round. The staging semaphores come first among the DMA semaphores and take no part. -/
def rd : Rounds.Schedule (GSem nD τ sig) (Fin 3) 𝕄 where
  duties g r := if r = 0 ∧ g.1.2 = .tc then (match g.2 with
    | .reg _ => Finset.univ
    | .dma q => if 3 ≤ q.val then {0} else ∅) else ∅
  unitless _ := False
  amount g _ _ := match g.2 with
    | .reg _ => 1
    | .dma _ => N
  payload g _ d := match g.2 with
    | .reg _ => barPay d g.1.1
    | .dma q => if 6 ≤ q.val then recvPay m ρ (slotOf q) g.1.1 else rowPts m ρ g.1.1 (slotOf q)
  amount_pos g _ _ _ := by
    rcases g with ⟨t, q | q⟩
    · exact Nat.one_pos
    · exact N_pos

instance rd_payload_storable (g : GSem nD τ sig) (r : ℕ) (d : Fin 3) :
    BI.Storable (upEmb : UEmb _ 𝕄) ((rd (F := F) m ρ).payload g r d) := by
  rcases g with ⟨t, q | q⟩
  · show BI.Storable upEmb (barPay d t.1); unfold barPay; infer_instance
  · show BI.Storable upEmb (if 6 ≤ q.val then recvPay m ρ (slotOf q) t.1 else rowPts m ρ t.1 (slotOf q))
    unfold recvPay
    split <;> infer_instance

section Sched
variable (e : Fin 3) (c : Dev nD)

omit [FloatOps F] in
theorem duties_bar : (rd (F := F) m ρ).duties (barCell c) 0 = Finset.univ := by dsimp only [rd]; exact if_pos ⟨rfl, rfl⟩
omit [FloatOps F] in
theorem duties_send : (rd (F := F) m ρ).duties (sendCell e c) 0 = {0} := by
  dsimp only [rd]; rw [if_pos ⟨rfl, rfl⟩]; exact if_pos (by rw [sendS_val]; omega)
omit [FloatOps F] in
theorem duties_recv : (rd (F := F) m ρ).duties (recvCell e c) 0 = {0} := by
  dsimp only [rd]; rw [if_pos ⟨rfl, rfl⟩]; exact if_pos (by rw [recvS_val]; omega)
omit [FloatOps F] in
theorem duties_later (g : GSem nD τ sig) : ∀ r, 1 ≤ r → (rd (F := F) m ρ).duties g r = ∅ :=
  fun r hr => if_neg fun h => by omega

omit [FloatOps F] in
theorem expect_bar : (rd (F := F) m ρ).expect (barCell c) 0 = 3 := by
  unfold Schedule.expect Schedule.amountOf
  rw [duties_bar, Finset.sum_congr rfl fun d _ => (show (rd (F := F) m ρ).amount (barCell c) 0 d = 1 from rfl)]
  rfl
omit [FloatOps F] in
theorem expect_send : (rd (F := F) m ρ).expect (sendCell e c) 0 = N := by
  unfold Schedule.expect Schedule.amountOf; rw [duties_send, Finset.sum_singleton]; rfl
omit [FloatOps F] in
theorem expect_recv : (rd (F := F) m ρ).expect (recvCell e c) 0 = N := by
  unfold Schedule.expect Schedule.amountOf; rw [duties_recv, Finset.sum_singleton]; rfl

omit [FloatOps F] in
theorem payload_send (d : Fin 3) : (rd (F := F) m ρ).payload (sendCell e c) 0 d = rowPts m ρ c e :=
  (if_neg (by rw [sendS_val]; omega)).trans (by rw [slotOf_send])
omit [FloatOps F] in
theorem payload_recv (d : Fin 3) : (rd (F := F) m ρ).payload (recvCell e c) 0 d = recvPay m ρ e c :=
  (if_pos (by rw [recvS_val]; omega)).trans (by rw [slotOf_recv])

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- What the whole round of each kind of cell carries. -/
theorem rest_bar : bigSep ((rd (F := F) m ρ).duties (barCell c) 0 \ ∅) (fun d => (rd (F := F) m ρ).payload (barCell c) 0 d)
    = iprop(barPay 0 c ∗ barPay 1 c ∗ barPay 2 c) := by
  rw [Finset.sdiff_empty, duties_bar, bigSep_fin3]; rfl
omit [FloatOps F] in
theorem rest_send : bigSep ((rd (F := F) m ρ).duties (sendCell e c) 0 \ ∅) (fun d => (rd (F := F) m ρ).payload (sendCell e c) 0 d) = rowPts m ρ c e := by
  rw [Finset.sdiff_empty, duties_send, bigSep_singleton, payload_send]
omit [FloatOps F] in
theorem rest_recv : bigSep ((rd (F := F) m ρ).duties (recvCell e c) 0 \ ∅) (fun d => (rd (F := F) m ρ).payload (recvCell e c) 0 d) = recvPay m ρ e c := by
  rw [Finset.sdiff_empty, duties_recv, bigSep_singleton, payload_recv]

end Sched

/-! ## What is owed at launch, and the levels -/

/-- After its three signals a device owes its three copies' completions: to the device each goes to. -/
def O₃ (c : Dev nD) : CellTallies nD τ sig Unit :=
  0 + tallyAt (recvCell 2 (fwd 2 c)) () N + tallyAt (recvCell 1 (fwd 1 c)) () N + tallyAt (recvCell 0 (fwd 0 c)) () N
/-- At launch it owes each of the other devices' barrier cells a unit besides. -/
def O₀ (c : Dev nD) : CellTallies nD τ sig Unit :=
  O₃ c + tallyAt (barCell (bwd 0 c)) () 1 + tallyAt (barCell (bwd 1 c)) () 1 + tallyAt (barCell (bwd 2 c)) () 1

def L (g : GSem nD τ sig) : Finset Unit := if g.1.2 = .tc then {()} else ∅
/-- Barrier cells lie below receive cells, and everything else below both. -/
def lv (g : GSem nD τ sig) (_ : Unit) : ℕ := match g.2 with
  | .reg _ => 1
  | .dma q => if 6 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (e : Fin 3) (c : Dev nD) : lv (recvCell e c) () = 2 := if_pos (by rw [recvS_val]; omega)

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem O₃_pos {c : Dev nD} {g : GSem nD τ sig} {u : Unit} (h : 0 < O₃ c g u) : ∃ e d, g = recvCell e d := by
  unfold O₃ at h
  simp only [Pi.add_apply, Finsupp.add_apply, Pi.zero_apply, Finsupp.zero_apply] at h
  rcases Nat.lt_or_ge 0 ((tallyAt (recvCell 2 (fwd 2 c)) () N : CellTallies nD τ sig Unit) g u) with h1 | h1
  · exact ⟨_, _, tally_pos h1⟩
  rcases Nat.lt_or_ge 0 ((tallyAt (recvCell 1 (fwd 1 c)) () N : CellTallies nD τ sig Unit) g u) with h2 | h2
  · exact ⟨_, _, tally_pos h2⟩
  exact ⟨_, _, tally_pos (g := recvCell 0 (fwd 0 c)) (n := N) (u := u) (by omega)⟩

theorem O₀_pos {c : Dev nD} {g : GSem nD τ sig} {u : Unit} (h : 0 < O₀ c g u) : (∃ e d, g = recvCell e d) ∨ ∃ d, g = barCell d := by
  unfold O₀ at h
  simp only [Pi.add_apply, Finsupp.add_apply] at h
  rcases Nat.lt_or_ge 0 (O₃ c g u) with h1 | h1
  · exact Or.inl (O₃_pos h1)
  rcases Nat.lt_or_ge 0 ((tallyAt (barCell (bwd 0 c)) () 1 : CellTallies nD τ sig Unit) g u) with h2 | h2
  · exact Or.inr ⟨_, tally_pos h2⟩
  rcases Nat.lt_or_ge 0 ((tallyAt (barCell (bwd 1 c)) () 1 : CellTallies nD τ sig Unit) g u) with h3 | h3
  · exact Or.inr ⟨_, tally_pos h3⟩
  exact Or.inr ⟨_, tally_pos (g := barCell (bwd 2 c)) (n := 1) (u := u) (by omega)⟩

omit [FloatOps F] in
/-- The staging waits come below everything owed. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, d, rfl⟩ | ⟨d, rfl⟩ <;> exact Finset.mem_singleton_self _)
      (fun p hp => by rw [Finset.mem_singleton.mp hp]; exact le_of_eq (if_neg (by omega)))
      (fun g u hg => by
        rcases O₀_pos hg with ⟨e, d, rfl⟩ | ⟨d, rfl⟩
        · rw [lv_recv]; decide
        · exact Nat.one_pos)
  · rw [MayWait_zero]; iintro -; iempintro

omit [FloatOps F] in
/-- At its barrier wait a device owes receive cells only, which lie above. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨e, d, rfl⟩ := O₃_pos hg; exact Finset.mem_singleton_self _)
    (fun p hp => by rw [Finset.mem_singleton.mp hp]; exact le_refl _)
    (fun g u hg => by obtain ⟨e, d, rfl⟩ := O₃_pos hg; rw [lv_recv]; decide)

end Cert.KernelIdealProof

end
-- ==== Proof.KernelIdealBuffers.lean ====
/-
# The exchange's buffers: how they split into blocks, and what the kernel's loads read

A device's copy of `x` splits into the three blocks of rows it sends and the rest, and its landing buffer into the three
slots; both come together again afterwards. The loads the kernel makes are read here once: of the whole buffers, of
its own rows, and of a slot holding a received block.
-/
module

public import proofs.«01_k».proof.Proof.KernelIdealProtocol
public import Idealize.ShloMosaic.Lib.Ring
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## A buffer as three disjoint blocks and the rest -/

section Split
variable {ℓ : Loc nD τ sig} (S : Fin 3 → Finset (Idx ℓ)) (hd : ∀ e e', e ≠ e' → Disjoint (S e) (S e'))

omit [FloatOps F] in
include hd in
/-- A buffer held whole is its three blocks and what is in none of them. -/
theorem split3 (f : Buf (Elt F) ℓ) :
    (ℓ ↦{fullShare} f : sProp 𝕄)
      = iprop(((ℓ ↦[S 0]{fullShare} f) ∗ (ℓ ↦[S 1]{fullShare} f) ∗ (ℓ ↦[S 2]{fullShare} f)) ∗ ℓ ↦[Finset.univ \ Finset.univ.biUnion S]{fullShare} f) := by
  have h : (ℓ ↦{fullShare} f : sProp 𝕄) ⊣⊢ iprop((ℓ ↦[Finset.univ.biUnion S]{fullShare} f) ∗ ℓ ↦[Finset.univ \ Finset.univ.biUnion S]{fullShare} f) :=
    pointsTo_split_subset (Finset.subset_univ _)
  rw [pointsTo_biUnion Finset.univ S (fun e _ e' _ hne => hd e e' hne), bigSep_fin3] at h
  exact Entails.antisymm h.1 h.2

end Split

/-! ## The landing buffer -/

theorem slot_set (e : Fin 3) : (slotM e).view.set = (slotR e).set := by
  show ((commM.view.slice (slotR e)).reshape _ _).set = _
  rw [View.set_reshape]; exact View.set_slice_whole _ _

theorem slot_disjoint (e e' : Fin 3) (h : e ≠ e') : Disjoint (slotM e).view.set (slotM e').view.set := by
  rw [slot_set, slot_set]
  refine Rect.unit_disjoint (0 : Fin 3) ?_
  have : e.val ≠ e'.val := fun h' => h (Fin.ext h')
  show e.val + 1 ≤ e'.val ∨ e'.val + 1 ≤ e.val
  omega

/-- Slot `e`'s elements, as elements of the landing buffer. -/
abbrev slotSet (e : Fin 3) : Finset (cc0_scratch2 : Ref sig .tc).ty.Idx := (slotM e).view.set

theorem slot_cover : Finset.univ.biUnion slotSet = Finset.univ := by
  refine Finset.eq_univ_iff_forall.mpr fun i => Finset.mem_biUnion.mpr ⟨⟨(i 0).val, (i 0).isLt⟩, Finset.mem_univ _, ?_⟩
  refine (congrArg (i ∈ ·) (slot_set _)).mpr ?_
  refine Rect.mem_set_unit.mpr fun a => ?_
  have h1 : (i 1).val < 256 := (i 1).isLt
  have h2 : (i 2).val < 256 := (i 2).isLt
  match a with
  | ⟨0, _⟩ => exact ⟨le_refl _, Nat.lt_succ_self _⟩
  | ⟨1, _⟩ => exact ⟨Nat.zero_le _, by show (i 1).val < 0 + 256; omega⟩
  | ⟨2, _⟩ => exact ⟨Nat.zero_le _, by show (i 2).val < 0 + 256; omega⟩

omit [FloatOps F] in
/-- The landing buffer is its three slots; -/
theorem comm_split (c : Dev nD) (f : Buf (Elt F) ((c : Thread nD τ).loc cc0_scratch2)) :
    ((((c : Thread nD τ).loc cc0_scratch2) ↦{fullShare} f : sProp 𝕄)) ⊢ iprop(slotPts c 0 f ∗ slotPts c 1 f ∗ slotPts c 2 f) := by
  refine (Entails.of_eq (Ring.pointsTo_blocks slotSet (fun e e' h => slot_disjoint e e' h) slot_cover f)).trans ?_
  rw [bigSep_fin3]; exact BI.Entails.refl _

omit [FloatOps F] in
/-- and the three slots, at whatever contents, are the landing buffer at some. -/
theorem comm_join (c : Dev nD) (f₀ : Buf (Elt F) ((c : Thread nD τ).loc cc0_scratch2)) :
    iprop((∃ f, slotPts c 0 f) ∗ (∃ f, slotPts c 1 f) ∗ (∃ f, slotPts c 2 f))
      ⊢ (iprop(∃ f, (((c : Thread nD τ).loc cc0_scratch2) ↦{fullShare} f)) : sProp 𝕄) := by
  refine BIBase.Entails.trans ?_ (Ring.pointsTo_blocks_join_exists (ℓ := (c : Thread nD τ).loc cc0_scratch2) slotSet
    (fun e e' h => slot_disjoint e e' h) slot_cover f₀)
  rw [bigSep_fin3]; exact BI.Entails.refl _

/-! ## The copy of `x` -/

theorem row_set (c : Dev nD) (e : Fin 3) : (rowM c e).view.set = (rowR c e).set := View.set_slice_whole _ _

theorem row_off (c : Dev nD) (e : Fin 3) : k0_off1 c (BitVec.ofNat 32 (1 + e.val)) = ![256 * ((c.val + e.val + 1) % 4), 0] := k0_off1_eq c e

theorem row_disjoint (c : Dev nD) (e e' : Fin 3) (h : e ≠ e') : Disjoint (rowM c e).view.set (rowM c e').view.set := by
  rw [row_set, row_set]
  refine Rect.unit_disjoint (0 : Fin 2) ?_
  rw [row_off, row_off]
  have h1 : e.val ≠ e'.val := fun h' => h (Fin.ext h')
  have h2 : c.val < 4 := c.isLt
  show 256 * ((c.val + e.val + 1) % 4) + 256 ≤ 256 * ((c.val + e'.val + 1) % 4)
    ∨ 256 * ((c.val + e'.val + 1) % 4) + 256 ≤ 256 * ((c.val + e.val + 1) % 4)
  omega

/-- What a device keeps while its blocks are away. -/
def keptSet (c : Dev nD) : Finset (Idx ((c : Thread nD τ).loc cc0_scratch0)) :=
  Finset.univ \ Finset.univ.biUnion (fun e : Fin 3 => (rowM c e).view.set)
def keptPts (c : Dev nD) : sProp 𝕄 := ((c : Thread nD τ).loc cc0_scratch0) ↦[keptSet c]{fullShare} (xstg m ρ c)

omit [FloatOps F] in
/-- The copy of `x` is the three blocks to send and what is kept. -/
theorem xb_split (c : Dev nD) :
    ((((c : Thread nD τ).loc cc0_scratch0) ↦{fullShare} (xstg m ρ c) : sProp 𝕄))
      = iprop((rowPts m ρ c 0 ∗ rowPts m ρ c 1 ∗ rowPts m ρ c 2) ∗ keptPts m ρ c) :=
  split3 (ℓ := (c : Thread nD τ).loc cc0_scratch0) (fun e : Fin 3 => (rowM c e).view.set) (fun e e' h => row_disjoint c e e' h) _

/-- A device's own rows are among what it keeps. -/
theorem own_kept (c : Dev nD) :
    (xbM : Memref sig .tc .vmem S1024x256 .bf16).view.setOn
      (Rect.unit (s := S1024x256) (k0_off2 c) S256x256.size (k0_off2_inb c)).toLoadRect.set ⊆ keptSet c := by
  intro i hi
  have hi' : i ∈ (Rect.unit (s := S1024x256) (k0_off2 c) S256x256.size (k0_off2_inb c)).set := by
    obtain ⟨j, hj, rfl⟩ := Finset.mem_map.mp hi
    exact hj
  refine Finset.mem_sdiff.mpr ⟨Finset.mem_univ _, fun hb => ?_⟩
  obtain ⟨e, -, he⟩ := Finset.mem_biUnion.mp hb
  rw [row_set] at he
  have h1 := Rect.mem_set_unit.mp hi' (0 : Fin 2)
  have h2 := Rect.mem_set_unit.mp he (0 : Fin 2)
  rw [k0_off2_eq] at h1
  rw [row_off] at h2
  have hc : c.val < 4 := c.isLt
  have he : e.val < 3 := e.isLt
  have h1a : 256 * c.val ≤ (i 0).val := h1.1
  have h1b : (i 0).val < 256 * c.val + 256 := h1.2
  have h2a : 256 * ((c.val + e.val + 1) % 4) ≤ (i 0).val := h2.1
  have h2b : (i 0).val < 256 * ((c.val + e.val + 1) % 4) + 256 := h2.2
  omega

/-! ## What the loads read -/

abbrev rX : Rect S1024x256 := Rect.unit (s := S1024x256) ![0, 0] S1024x256.size inb_S1024x256_S1024x256_0_0
abbrev rW : Rect S1024x1024 := Rect.unit (s := S1024x1024) ![0, 0] S1024x1024.size inb_S1024x1024_S1024x1024_0_0
abbrev rO : Rect S256x1024 := Rect.unit (s := S256x1024) ![0, 0] S256x1024.size inb_S256x1024_S256x1024_0_0

omit [FloatOps F] in
theorem zero2 : (![0, 0] : Fin 2 → Nat) = fun _ => 0 := funext fun a => by fin_cases a <;> rfl

/-- The two copies made within a device change nothing: the first is of `x`, -/
theorem write_xb (f : (cc0_scratch0 : Ref sig .tc).ty.Contents (Elt F)) (g : (cc0_stg0_0 : Ref sig .tc).ty.Contents (Elt F)) :
    ((xbM : Memref sig .tc .vmem S1024x256 .bf16).access rX : View sig .tc _ _ _).write (Elt F) f
      (k0_pay2 ((xM : Memref sig .tc .vmem S1024x256 .bf16).view.readAt (Elt F) rX.toLoadRect g)) Finset.univ = g := by
  rw [show (xM : Memref sig .tc .vmem S1024x256 .bf16).view.readAt (Elt F) rX.toLoadRect g = g from Memref.readAt_unit_zero (Elt F) cc0_stg0_0 zero2 _ g]
  refine (Memref.write_access_unit_zero_univ (Elt F) cc0_scratch0 zero2 _ f _).trans ?_
  unfold k0_pay2
  exact (shapeCast_self _ _).trans (shapeCast_self _ _)

/-- the second of `w`. -/
theorem write_wb (f : (cc0_scratch1 : Ref sig .tc).ty.Contents (Elt F)) (g : (cc0_stg1_0 : Ref sig .tc).ty.Contents (Elt F)) :
    ((wbM : Memref sig .tc .vmem S1024x1024 .bf16).access rW : View sig .tc _ _ _).write (Elt F) f
      (k0_pay3 ((wM : Memref sig .tc .vmem S1024x1024 .bf16).view.readAt (Elt F) rW.toLoadRect g)) Finset.univ = g := by
  rw [show (wM : Memref sig .tc .vmem S1024x1024 .bf16).view.readAt (Elt F) rW.toLoadRect g = g from Memref.readAt_unit_zero (Elt F) cc0_stg1_0 zero2 _ g]
  refine (Memref.write_access_unit_zero_univ (Elt F) cc0_scratch1 zero2 _ f _).trans ?_
  unfold k0_pay3
  exact (shapeCast_self _ _).trans (shapeCast_self _ _)

/-- The result's store replaces the whole buffer. -/
theorem write_out (f w : (cc0_stg2_0 : Ref sig .tc).ty.Contents (Elt F)) :
    ((oM : Memref sig .tc .vmem S256x1024 .f32).access rO : View sig .tc _ _ _).write (Elt F) f w Finset.univ = w :=
  Memref.write_access_unit_zero_univ (Elt F) cc0_stg2_0 zero2 _ f w

theorem casts_up : S256x256.ShapeCasts S1x256x256 := by decide
/-- A block with a leading axis of one, as a load of a slot has it. -/
def up (v : Vec F S256x256 .bf16) : Vec F S1x256x256 .bf16 := shapeCast S1x256x256 v casts_up

omit [FloatOps F] in
/-- A load of a slot that reads as `X` gives `X`. -/
theorem read_slot (e : Fin 3) (f : (cc0_scratch2 : Ref sig .tc).ty.Contents (Elt F)) (X : Vec F S256x256 .bf16)
    (h : (slotM e).view.read (Elt F) f = X) :
    (commM : Memref sig .tc .vmem S3x256x256 .bf16).view.readAt (Elt F) (slotR e).toLoadRect f = up X := by
  subst h
  exact (shapeCast_shapeCast _ shapeCasts_S1x256x256_S256x256 casts_up).symm

/-- A load of a slot stays within it. -/
theorem slot_read_set (e : Fin 3) :
    (commM : Memref sig .tc .vmem S3x256x256 .bf16).view.setOn (slotR e).toLoadRect.set ⊆ (slotM e).view.set := by
  intro i hi
  refine (congrArg (i ∈ ·) (slot_set e)).mpr ?_
  obtain ⟨j, hj, rfl⟩ := Finset.mem_map.mp hi
  exact hj

/-- The rows of `x` a device multiplies itself, and the rows of `w` it multiplies them by. -/
def xOwn (c : Dev nD) : Vec F S256x256 .bf16 :=
  (xbM : Memref sig .tc .vmem S1024x256 .bf16).view.readAt (Elt F) (Rect.unit (s := S1024x256) (k0_off2 c) S256x256.size (k0_off2_inb c)).toLoadRect (xstg m ρ c)
def wOwn (c : Dev nD) : Vec F S256x1024 .bf16 :=
  (wbM : Memref sig .tc .vmem S1024x1024 .bf16).view.readAt (Elt F) (Rect.unit (s := S1024x1024) (k0_off3 c) S256x1024.size (k0_off3_inb c)).toLoadRect (wstg m ρ c)
/-- The rows of `w` for the block of slot `e`. -/
def wRow (e : Fin 3) (c : Dev nD) : Vec F S256x1024 .bf16 :=
  (wbM : Memref sig .tc .vmem S1024x1024 .bf16).view.readAt (Elt F)
    (Rect.unit (s := S1024x1024) (k0_off4 c (BitVec.ofNat 32 (1 + e.val))) S256x1024.size (k0_off4_inb c e)).toLoadRect (wstg m ρ c)

/-- The kernel's result on device `c`: its own product, the three received blocks' products added in the order of the
    slots, and the activation. -/
def outAt (c : Dev nD) : (cc0_stg2_0 : Ref sig .tc).ty.Contents (Elt F) :=
  k0_pay1 (k0_pay5 (k0_pay4 (xOwn m ρ c) (wOwn m ρ c) (up (blk m ρ 0 c)) (wRow m ρ 0 c)) (up (blk m ρ 1 c)) (wRow m ρ 1 c))
    (up (blk m ρ 2 c)) (wRow m ρ 2 c)

end Cert.KernelIdealProof

end
-- ==== Proof.KernelIdealSteps.lean ====
/-
# The exchange's steps: telling a slot is free, sending a block, and the waits

Each kind of step the kernel makes, proved once at any device and any slot: what it takes of the ghost state and what it
leaves. The whole kernel is then these steps in program order.
-/
module

public import proofs.«01_k».proof.Proof.KernelIdealBuffers

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

/-- The invariants of slot `e` that device `c` uses, and the marks that their cells are at the start: its own send and receive
    cells', the receive cell's of the device it sends to, and the barrier cell's of the device it receives from. -/
def slotFacts (c : Dev nD) (e : Fin 3) : sProp 𝕄 :=
  iprop((cellInv ER (rd m ρ) (K (c, ksend e)) (sendCell e c) ∗ cellInv ER (rd m ρ) (K (c, krecv e)) (recvCell e c)
      ∗ cellInv ER (rd m ρ) (K (fwd e c, krecv e)) (recvCell e (fwd e c)) ∗ cellInv ER (rd m ρ) (K (bwd e c, 0)) (barCell (bwd e c)))
    ∗ reached ER (barCell (bwd e c)) 0 ∗ reached ER (sendCell e c) 0 ∗ reached ER (recvCell e c) 0)

instance slotFacts_persistent (c : Dev nD) (e : Fin 3) : BI.Persistent (slotFacts m ρ K c e) := by unfold slotFacts; infer_instance

omit [FloatOps F] in
theorem slot_inv_send (c : Dev nD) (e : Fin 3) : slotFacts m ρ K c e ⊢ cellInv ER (rd m ρ) (K (c, ksend e)) (sendCell e c) := by
  unfold slotFacts; iintro ⟨⟨H, -⟩, -⟩; iexact H
omit [FloatOps F] in
theorem slot_inv_recv (c : Dev nD) (e : Fin 3) : slotFacts m ρ K c e ⊢ cellInv ER (rd m ρ) (K (c, krecv e)) (recvCell e c) := by
  unfold slotFacts; iintro ⟨⟨-, H, -⟩, -⟩; iexact H

/-- The tokens device `c` pays with for slot `e`. -/
def payToks (c : Dev nD) (e : Fin 3) : sProp 𝕄 :=
  iprop(dutyTok ER (barCell (bwd e c)) 0 e ∗ dutyTok ER (recvCell e (fwd e c)) 0 0 ∗ dutyTok ER (sendCell e c) 0 0)

section Steps
variable (c : Dev nD) (e : Fin 3) {α : Type} {Q : α → sProp (MT nD τ sig Unit (Elt F) ℕ UU ℕ)}
  {k : PUnit → Prog (TpuEff nD τ sig (Elt F) Λ₀ .tc) α}

/-- Telling the device that will send into slot `e` that the slot is free: the slot goes with the signal. -/
theorem wp_tell (n : Dev nD) (hn : n = bwd e c) (k' : ℕ) (hk : k' = 1) (O : CellTallies nD τ sig Unit) (W : Waits sig Unit)
    (f : Buf (Elt F) ((slotM e).view.loc (c : Thread nD τ))) :
    iprop(slotFacts m ρ K c e ∗ owes (c : Thread nD τ) (O + tallyAt (barCell (bwd e c)) () 1) W ∗ dutyTok ER (barCell (bwd e c)) 0 e ∗ slotPts c e f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk
  unfold slotFacts
  iintro ⟨⟨⟨-, -, -, #HI⟩, #HrB, -, #HrV⟩, HO, Ht, Hs⟩
  iapply (Rounds.wp_signal 𝒱₀ ER (rd m ρ) (c : Thread nD τ) none (dst := (bwd e c : Thread nD τ)) (κ := K (bwd e c, 0))
      (d := e) (by rw [duties_bar]; exact Finset.mem_univ _) rfl () O rfl)
  isplitr; · iexact HI
  isplitl [HO]; · iexact HO
  isplitl [Ht]; · iexact Ht
  isplitl [Hs]
  · iapply (show barPay e (bwd e c) ⊢ (rd m ρ).payload (barCell (bwd e c)) 0 e from BI.Entails.refl _)
    unfold barPay
    rw [fwd_bwd]
    isplitl [Hs]; · iexists f; iexact Hs
    iexact HrV
  iexact HrB

omit [FloatOps F] in
theorem slot_landed (n : Dev nD) (fd : Buf (Elt F) ((slotM e).view.loc (n : Thread nD τ))) (c : Dev nD) (h : bwd e n = c) :
    ((slotM e).view.loc (n : Thread nD τ) ↦[(slotM e).view.set]{fullShare} ((slotM e).view.write (Elt F) fd ((rowM c e).view.read (Elt F) (xstg m ρ c)) Finset.univ))
      ⊢ (recvPay m ρ e n : sProp 𝕄) := by
  subst h
  unfold recvPay slotPts
  iintro H
  iexists ((slotM e).view.write (Elt F) fd ((rowM (bwd e n) e).view.read (Elt F) (xstg m ρ (bwd e n))) Finset.univ)
  isplitr
  · ipureintro; exact View.read_write_univ _ _
  iexact H

/-- Sending block `e`: the rows go out, the slot of the device they go to is filled, and the completion owed for it is paid. -/
theorem wp_send_block (n : Dev nD) (hn : n = fwd e c)
    {src : Memref sig .tc .vmem S256x256 .bf16} (hs : src = rowM c e)
    {dst : Memref sig (Dev.tc n : Thread nD τ).2.kind .vmem S256x256 .bf16} (hd : dst = slotM e)
    {qs qr : DmaSem sig} (hqs : qs = sendS e) (hqr : qr = recvS e)
    {hsc : dst.view.ref.isScScratch = false} {hsrc : src.view.WordExact} {hdst : dst.view.WordExact}
    {hsem : DmaTarget.Typed .vmem (.dma qr) (.remote (Dev.tc n : Thread nD τ) dst (.dma qs) hsc)}
    (fn : Buf (Elt F) ((slotM e).view.loc (fwd e c : Thread nD τ))) (O : CellTallies nD τ sig Unit) (W : Waits sig Unit) :
    iprop(slotFacts m ρ K c e ∗ rowPts m ρ c e ∗ slotPts (fwd e c) e fn ∗ reached ER (recvCell e (fwd e c)) 0
        ∗ owes (c : Thread nD τ) (O + tallyAt (recvCell e (fwd e c)) () N) W
        ∗ dutyTok ER (recvCell e (fwd e c)) 0 0 ∗ dutyTok ER (sendCell e c) 0 0)
      ⊢ iprop(((cred (tallyAt (sendCell e c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn hs hqs hqr
  subst hd
  unfold slotFacts rowPts slotPts
  iintro ⟨⟨⟨#HIs, -, #HIn, -⟩, -, #HrS, -⟩, Hrow, Hslot, #HrN, HO, HtN, HtS⟩
  iapply (Rounds.wp_send_pointsTo 𝒱₀ ER (rd m ρ) (c : Thread nD τ) none (κ₁ := K (c, ksend e)) (κ₂ := K (fwd e c, krecv e))
    (r₁ := 0) (r₂ := 0) (d₁ := 0) (d₂ := 0) (fd := fn)
    (by rw [duties_send]; exact Finset.mem_singleton_self _) (by rw [duties_recv]; exact Finset.mem_singleton_self _)
    () () N rfl rfl rfl O rfl (W := W)
    (by rw [payload_send]; unfold rowPts; exact BI.Entails.refl _)
    (by rw [payload_recv]; exact slot_landed m ρ e (fwd e c) fn c (bwd_fwd e c)))
  isplitr; · iexact HIs
  isplitr; · iexact HIn
  isplitl [Hrow]; · iexact Hrow
  isplitl [Hslot]; · iexact Hslot
  isplitl [HO]; · iexact HO
  isplitl [HtS]; · iexact HtS
  isplitr; · iexact HrS
  isplitl [HtN]; · iexact HtN
  iexact HrN

/-- Waiting for the three other devices: their slots for this device's blocks come with it. -/
theorem wp_all_told (κ : ℕ) (k' : ℕ) (hk : k' = 3) (W : Waits sig Unit) :
    iprop(cellInv ER (rd m ρ) κ (barCell c) ∗ cred (tallyAt (barCell c) () 3) ∗ owes (c : Thread nD τ) (O₃ c) W ∗ levAts L lv ∗ atPos ER (barCell c) 0 ∅ 0)
      ⊢ iprop(((owes (c : Thread nD τ) (O₃ c) (insert (SemLoc.reg barS, ()) W) ∗ atPos ER (barCell c) 1 ∅ 0
            ∗ barPay 0 c ∗ barPay 1 c ∗ barPay 2 c)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS k') k) Q) := by
  subst hk
  iintro ⟨#HI, Hc, HO, #Hlev, Hat⟩ Hk
  iapply (Rounds.wp_wait_rest_token 𝒱₀ ER (rd m ρ) (c : Thread nD τ) none (κ := κ)
      (wpE_semWait_eq 𝒱₀ (c : Thread nD τ) none Set.univ) (Set.mem_univ _) () (O := O₃ c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m ρ c)); iexact Hpay

/-- A wait on one of the device's own copy semaphores, once nothing is owed, brings what its round carries. -/
theorem wp_wait_copy (q : DmaSem sig) (κ : ℕ) {P : sProp 𝕄}
    (hrest : bigSep ((rd (F := F) m ρ).duties ((c : Thread nD τ), .dma q) 0 \ ∅) (fun d => (rd (F := F) m ρ).payload ((c : Thread nD τ), .dma q) 0 d) = P)
    (hexp : (rd (F := F) m ρ).expect ((c : Thread nD τ), .dma q) 0 = N)
    {src dst : Memref sig .tc .vmem S256x256 .bf16} {h₁ : src.view.WordExact} {h₂ : dst.view.WordExact} (hN : dst.view.dmaCredit = N)
    {q' : DmaSem sig} (hq : q' = q) (W : Waits sig Unit) :
    iprop(cellInv ER (rd m ρ) κ ((c : Thread nD τ), .dma q) ∗ cred (tallyAt ((c : Thread nD τ), .dma q) () N) ∗ owes (c : Thread nD τ) 0 W
        ∗ atPos ER ((c : Thread nD τ), .dma q) 0 ∅ 0)
      ⊢ iprop(((owes (c : Thread nD τ) 0 (insert (SemLoc.dma q, ()) W) ∗ atPos ER ((c : Thread nD τ), .dma q) 1 ∅ 0 ∗ P)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q' src dst h₁ h₂) k) Q) := by
  subst hq
  iintro ⟨#HI, Hc, HO, Hat⟩ Hk
  rw [← hN]
  iapply (Rounds.wp_wait_rest_token 𝒱₀ ER (rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, hexp, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq hrest); iexact Hpay

omit [FloatOps F] in
/-- After its one round a cell's semaphore is the device's again, at zero. -/
theorem close_one (sm : SemLoc sig) (κ : ℕ) :
    iprop(cellInv ER (rd m ρ) κ ((c : Thread nD τ), sm) ∗ atPos ER ((c : Thread nD τ), sm) 1 ∅ 0)
      ⊢ (|={Set.univ}=> semVal ((c : Thread nD τ), sm) 0 : sProp 𝕄) :=
  Rounds.cell_close ER (rd m ρ) (Set.mem_univ κ) (fun h => h) (duties_later m ρ _)

end Steps

end Cert.KernelIdealProof

end
-- ==== Proof.KernelIdealBody.lean ====
/-
# The kernel's body on one device

From what the launch deals a device — its ghost state, its staged inputs, its scratch buffers — to its result staged, by
the steps of the exchange in program order.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after -/

/-- Device `c`'s positions at the start of its own copy cells of slot `e`. -/
def slotAt (c : Dev nD) (e : Fin 3) : sProp 𝕄 := iprop(atPos ER (sendCell e c) 0 ∅ 0 ∗ atPos ER (recvCell e c) 0 ∅ 0)

/-- The ghost state device `c` starts from. -/
def ghost (K : Dev nD × Fin 7 → ℕ) (c : Dev nD) : sProp 𝕄 :=
  iprop((cellInv ER (rd m ρ) (K (c, 0)) (barCell c) ∗ slotFacts m ρ K c 0 ∗ slotFacts m ρ K c 1 ∗ slotFacts m ρ K c 2)
    ∗ (atPos ER (barCell c) 0 ∅ 0 ∗ slotAt c 0 ∗ slotAt c 1 ∗ slotAt c 2)
    ∗ payToks c 0 ∗ payToks c 1 ∗ payToks c 2)

/-- The credit a device waits with: three units on its barrier, one copy's on each of its receive cells. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

def start (c : Dev nD) : sProp 𝕄 := iprop((∃ K, ghost m ρ K c) ∗ credits c ∗ levAts L lv)

/-- The scratch buffers, at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- The seven semaphores at zero. -/
def closed (c : Dev nD) : sProp 𝕄 :=
  iprop((semVal (sendCell 0 c) 0 ∗ semVal (sendCell 1 c) 0 ∗ semVal (sendCell 2 c) 0
      ∗ semVal (recvCell 0 c) 0 ∗ semVal (recvCell 1 c) 0 ∗ semVal (recvCell 2 c) 0) ∗ semVal (barCell c) 0)

def Φ₀ (c : Dev nD) : sProp 𝕄 := iprop(start m ρ c ∗ scratch c)
def Φ₁ (c : Dev nD) : sProp 𝕄 := iprop(scratch c ∗ closed c)

/-- The staging pipeline's data: the inputs stay, the result is `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 7 → ℕ)

def bodyPre (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ
    ∗ stg c cc0_stg0_0 (xstg m ρ c) ∗ stg c cc0_stg1_0 (wstg m ρ c) ∗ stg c cc0_stg2_0 (outAt m ρ c))

set_option maxHeartbeats 1600000 in
set_option maxRecDepth 8000 in
/-- The body, step by step. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost credits scratch slotAt payToks
  iintro ⟨⟨⟨⟨⟨#HIb, #HF0, #HF1, #HF2⟩, ⟨HaB, ⟨HaS0, HaV0⟩, ⟨HaS1, HaV1⟩, ⟨HaS2, HaV2⟩⟩, ⟨HtB0, HtN0, HtS0⟩, ⟨HtB1, HtN1, HtS1⟩, ⟨HtB2, HtN2, HtS2⟩⟩,
      ⟨HcB, HcV0, HcV1, HcV2⟩, #Hlev, ⟨⟨%fxb, Hxb⟩, ⟨%fwb, Hwb⟩, ⟨%fcm, Hcm⟩⟩⟩,
    Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx; subst hw
  unfold Dat.owesAt Pipeline.owesWithin
  icases Ho with ⟨%W, %hW, HO⟩
  rw [show (dats m ρ 0 c).owed t₀.castSucc = O₀ c from rfl]
  unfold O₀
  ihave Hsl := (comm_split c fcm) $$ Hcm
  icases Hsl with ⟨Hs0, Hs1, Hs2⟩
  -- tell the three others that their slots here are free
  iapply (wp_tell m ρ K c 2 _ (dev1_eq c) _ (by decide) _ W fcm) $$ [HO HtB2 Hs2]
  · isplitr; · iexact HF2
    isplitl [HO]; · iexact HO
    isplitl [HtB2] <;> iassumption
  iintro HO
  iapply (wp_tell m ρ K c 1 _ (dev2_eq c) _ (by decide) _ W fcm) $$ [HO HtB1 Hs1]
  · isplitr; · iexact HF1
    isplitl [HO]; · iexact HO
    isplitl [HtB1] <;> iassumption
  iintro HO
  iapply (wp_tell m ρ K c 0 _ (dev3_eq c) _ (by decide) _ W fcm) $$ [HO HtB0 Hs0]
  · isplitr; · iexact HF0
    isplitl [HO]; · iexact HO
    isplitl [HtB0] <;> iassumption
  iintro HO
  -- the copy of `x`
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ Hxb; iintro Hxb
  iapply (wp_store 𝒱₀ (c : Thread nD τ) none Set.univ (m := xbM) (r := rX) (Mk := Finset.univ) (Finset.subset_univ _)) $$ Hxb; iintro Hxb
  rw [write_xb]
  -- wait until the three others have told that their slots are free
  iapply (wp_all_told m ρ c (K (c, 0)) _ (by decide) W) $$ [HcB HO HaB]
  · isplitr; · iexact HIb
    isplitl [HcB]; · iexact HcB
    isplitl [HO]; · iexact HO
    isplitr; · iexact Hlev
    iexact HaB
  unfold barPay O₃
  iintro ⟨HO, HaB, ⟨⟨%fn0, Hn0⟩, #Hr0⟩, ⟨⟨%fn1, Hn1⟩, #Hr1⟩, ⟨⟨%fn2, Hn2⟩, #Hr2⟩⟩
  ihave Hsp := (Entails.of_eq (xb_split m ρ c)) $$ Hxb
  icases Hsp with ⟨⟨Hrow0, Hrow1, Hrow2⟩, Hkept⟩
  -- send the three blocks
  iapply (wp_send_block m ρ K c 0 _ (dev4_eq c) rfl rfl rfl rfl fn0 _ _) $$ [Hrow0 Hn0 HO HtN0 HtS0]
  · isplitr; · iexact HF0
    isplitl [Hrow0]; · iexact Hrow0
    isplitl [Hn0]; · iexact Hn0
    isplitr; · iexact Hr0
    isplitl [HO]; · iexact HO
    isplitl [HtN0] <;> iassumption
  iintro ⟨HcS0, HO⟩
  iapply (wp_send_block m ρ K c 1 _ (dev5_eq c) rfl rfl rfl rfl fn1 _ _) $$ [Hrow1 Hn1 HO HtN1 HtS1]
  · isplitr; · iexact HF1
    isplitl [Hrow1]; · iexact Hrow1
    isplitl [Hn1]; · iexact Hn1
    isplitr; · iexact Hr1
    isplitl [HO]; · iexact HO
    isplitl [HtN1] <;> iassumption
  iintro ⟨HcS1, HO⟩
  iapply (wp_send_block m ρ K c 2 _ (dev6_eq c) rfl rfl rfl rfl fn2 _ _) $$ [Hrow2 Hn2 HO HtN2 HtS2]
  · isplitr; · iexact HF2
    isplitl [Hrow2]; · iexact Hrow2
    isplitl [Hn2]; · iexact Hn2
    isplitr; · iexact Hr2
    isplitl [HO]; · iexact HO
    isplitl [HtN2] <;> iassumption
  iintro ⟨HcS2, HO⟩
  -- the copy of `w`, and the product of the device's own rows
  iapply (wp_load 𝒱₀ (c : Thread nD τ) none Set.univ (m := wM) (Finset.subset_univ _)) $$ Hw; iintro Hw
  iapply (wp_load 𝒱₀ (c : Thread nD τ) none Set.univ (m := wbM) (Finset.subset_univ _)) $$ Hwb; iintro Hwb
  iapply (wp_store 𝒱₀ (c : Thread nD τ) none Set.univ (m := wbM) (r := rW) (Mk := Finset.univ) (Finset.subset_univ _)) $$ Hwb; iintro Hwb
  rw [write_wb]
  unfold keptPts
  iapply (wp_load 𝒱₀ (c : Thread nD τ) none Set.univ (m := xbM) (own_kept c)) $$ Hkept; iintro Hkept
  iapply (wp_load 𝒱₀ (c : Thread nD τ) none Set.univ (m := wbM) (Finset.subset_univ _)) $$ Hwb; iintro Hwb
  -- block 0 arrives
  iapply (wp_wait_copy m ρ c (recvS 0) (K (c, krecv 0)) (rest_recv m ρ 0 c) (expect_recv m ρ 0 c) (src := rowM c 0) (dst := slotM 0) rfl rfl _) $$ [HcV0 HO HaV0]
  · isplitr; · iapply (slot_inv_recv m ρ K c 0); iexact HF0
    isplitl [HcV0]; · iexact HcV0
    isplitl [HO]; · iexact HO
    iexact HaV0
  unfold recvPay
  iintro ⟨HO, HaV0, ⟨%fr0, %hfr0, Hs0⟩⟩
  unfold slotPts
  iapply (wp_load 𝒱₀ (c : Thread nD τ) none Set.univ (m := commM) (r := (slotR 0).toLoadRect) (slot_read_set 0)) $$ Hs0; iintro Hs0
  rw [read_slot 0 fr0 _ hfr0]
  iapply (wp_load 𝒱₀ (c : Thread nD τ) none Set.univ (m := wbM) (Finset.subset_univ _)) $$ Hwb; iintro Hwb
  -- block 1 arrives
  iapply (wp_wait_copy m ρ c (recvS 1) (K (c, krecv 1)) (rest_recv m ρ 1 c) (expect_recv m ρ 1 c) (src := rowM c 1) (dst := slotM 1) rfl rfl _) $$ [HcV1 HO HaV1]
  · isplitr; · iapply (slot_inv_recv m ρ K c 1); iexact HF1
    isplitl [HcV1]; · iexact HcV1
    isplitl [HO]; · iexact HO
    iexact HaV1
  unfold recvPay
  iintro ⟨HO, HaV1, ⟨%fr1, %hfr1, Hs1⟩⟩
  unfold slotPts
  iapply (wp_load 𝒱₀ (c : Thread nD τ) none Set.univ (m := commM) (r := (slotR 1).toLoadRect) (slot_read_set 1)) $$ Hs1; iintro Hs1
  rw [read_slot 1 fr1 _ hfr1]
  iapply (wp_load 𝒱₀ (c : Thread nD τ) none Set.univ (m := wbM) (Finset.subset_univ _)) $$ Hwb; iintro Hwb
  -- block 2 arrives
  iapply (wp_wait_copy m ρ c (recvS 2) (K (c, krecv 2)) (rest_recv m ρ 2 c) (expect_recv m ρ 2 c) (src := rowM c 2) (dst := slotM 2) rfl rfl _) $$ [HcV2 HO HaV2]
  · isplitr; · iapply (slot_inv_recv m ρ K c 2); iexact HF2
    isplitl [HcV2]; · iexact HcV2
    isplitl [HO]; · iexact HO
    iexact HaV2
  unfold recvPay
  iintro ⟨HO, HaV2, ⟨%fr2, %hfr2, Hs2⟩⟩
  unfold slotPts
  iapply (wp_load 𝒱₀ (c : Thread nD τ) none Set.univ (m := commM) (r := (slotR 2).toLoadRect) (slot_read_set 2)) $$ Hs2; iintro Hs2
  rw [read_slot 2 fr2 _ hfr2]
  iapply (wp_load 𝒱₀ (c : Thread nD τ) none Set.univ (m := wbM) (Finset.subset_univ _)) $$ Hwb; iintro Hwb
  -- the result
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out]
  -- the sent rows are back
  iapply (wp_wait_copy m ρ c (sendS 0) (K (c, ksend 0)) (rest_send m ρ 0 c) (expect_send m ρ 0 c) (src := slotM 0) (dst := rowM c 0) rfl rfl _) $$ [HcS0 HO HaS0]
  · isplitr; · iapply (slot_inv_send m ρ K c 0); iexact HF0
    isplitl [HcS0]; · iexact HcS0
    isplitl [HO]; · iexact HO
    iexact HaS0
  iintro ⟨HO, HaS0, Hrow0⟩
  iapply (wp_wait_copy m ρ c (sendS 1) (K (c, ksend 1)) (rest_send m ρ 1 c) (expect_send m ρ 1 c) (src := slotM 1) (dst := rowM c 1) rfl rfl _) $$ [HcS1 HO HaS1]
  · isplitr; · iapply (slot_inv_send m ρ K c 1); iexact HF1
    isplitl [HcS1]; · iexact HcS1
    isplitl [HO]; · iexact HO
    iexact HaS1
  iintro ⟨HO, HaS1, Hrow1⟩
  iapply (wp_wait_copy m ρ c (sendS 2) (K (c, ksend 2)) (rest_send m ρ 2 c) (expect_send m ρ 2 c) (src := slotM 2) (dst := rowM c 2) rfl rfl _) $$ [HcS2 HO HaS2]
  · isplitr; · iapply (slot_inv_send m ρ K c 2); iexact HF2
    isplitl [HcS2]; · iexact HcS2
    isplitl [HO]; · iexact HO
    iexact HaS2
  iintro ⟨HO, HaS2, Hrow2⟩
  -- every cell closes
  imod (close_one m ρ c (.reg barS) (K (c, 0))) $$ [HaB] with HzB
  · isplitr; · iexact HIb
    iexact HaB
  imod (close_one m ρ c (.dma (sendS 0)) (K (c, ksend 0))) $$ [HaS0] with HzS0
  · isplitr; · iapply (slot_inv_send m ρ K c 0); iexact HF0
    iexact HaS0
  imod (close_one m ρ c (.dma (recvS 0)) (K (c, krecv 0))) $$ [HaV0] with HzV0
  · isplitr; · iapply (slot_inv_recv m ρ K c 0); iexact HF0
    iexact HaV0
  imod (close_one m ρ c (.dma (sendS 1)) (K (c, ksend 1))) $$ [HaS1] with HzS1
  · isplitr; · iapply (slot_inv_send m ρ K c 1); iexact HF1
    iexact HaS1
  imod (close_one m ρ c (.dma (recvS 1)) (K (c, krecv 1))) $$ [HaV1] with HzV1
  · isplitr; · iapply (slot_inv_recv m ρ K c 1); iexact HF1
    iexact HaV1
  imod (close_one m ρ c (.dma (sendS 2)) (K (c, ksend 2))) $$ [HaS2] with HzS2
  · isplitr; · iapply (slot_inv_send m ρ K c 2); iexact HF2
    iexact HaS2
  imod (close_one m ρ c (.dma (recvS 2)) (K (c, krecv 2))) $$ [HaV2] with HzV2
  · isplitr; · iapply (slot_inv_recv m ρ K c 2); iexact HF2
    iexact HaV2
  rw [wp_ret]; imodintro
  iapply Hk
  unfold bodyPost Φ₁ scratch closed Dat.owesAt Pipeline.owesWithin
  rw [show (dats m ρ 0 c).owed t₀.succ = 0 from rfl]
  isplitl [Hrow0 Hrow1 Hrow2 Hkept Hwb Hs0 Hs1 Hs2 HzS0 HzS1 HzS2 HzV0 HzV1 HzV2 HzB]
  · isplitl [Hrow0 Hrow1 Hrow2 Hkept Hwb Hs0 Hs1 Hs2]
    · isplitl [Hrow0 Hrow1 Hrow2 Hkept]
      · iexists (xstg m ρ c)
        iapply (Entails.of_eq (xb_split m ρ c).symm)
        unfold keptPts
        isplitl [Hrow0 Hrow1 Hrow2]
        · isplitl [Hrow0]; · iexact Hrow0
          isplitl [Hrow1] <;> iassumption
        iexact Hkept
      isplitl [Hwb]; · iexists _; iexact Hwb
      iapply (comm_join c fcm)
      unfold slotPts
      isplitl [Hs0]; · iexists fr0; iexact Hs0
      isplitl [Hs1]; · iexists fr1; iexact Hs1
      iexists fr2; iexact Hs2
    isplitr [HzB]
    · isplitl [HzS0]; · iexact HzS0
      isplitl [HzS1]; · iexact HzS1
      isplitl [HzS2]; · iexact HzS2
      isplitl [HzV0]; · iexact HzV0
      isplitl [HzV1] <;> iassumption
    iexact HzB
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _
  isplitr
  rotate_left
  · iexact Hout
  · ipureintro; rfl

end Body

end Cert.KernelIdealProof

end
-- ==== Proof.KernelIdealLaunch.lean ====
/-
# The launch: dealing the ghost state to the four devices, and the run of the whole program

The seven cells of every device are set up under one update, because the devices share them; the tokens of the duties go to
the devices that pay them. With the body's theorem this gives the run: every execution ends, each device's result is
`outAt`, the inputs are unchanged and every semaphore is at zero.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

def bodyStart (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 8000 in
/-- The pipeline's obligation on each device. -/
theorem body_obligation (c : Dev nD) : BodyObligation (dats (F := F) m ρ 0 c) (defs₀ (F := F)) 𝒱₀ () Set.univ := fun t => by
  rw [fin_N t]
  rw [show (bigSep (Finset.univ : Finset (Fin cfg0.W)) : (Fin cfg0.W → sProp 𝕄) → sProp 𝕄) = fun Φ => iprop(Φ (0 : Fin 3) ∗ Φ (1 : Fin 3) ∗ Φ (2 : Fin 3))
    from funext bigSep_W0]
  simp only [owns_whole_eq]
  show bodyStart m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4)
    (fun _ => bodyPost m ρ c)
  unfold bodyStart Φ₀ start
  iintro ⟨⟨⟨⟨%K, Hg⟩, Hc, Hl⟩, Hscr⟩, Hrest⟩
  iapply (sound_body m ρ K c fun _ => bodyPost m ρ c)
  isplitl
  · unfold bodyPre
    isplitl [Hg Hc Hl Hscr]
    · isplitl [Hg]; · iexact Hg
      isplitl [Hc]; · iexact Hc
      isplitl [Hl] <;> iassumption
    iexact Hrest
  · iintro H; iexact H

/-! ## The cells and the tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def xCells : Finset (GSem nD τ sig) := Finset.univ.map ⟨kcell, kcell_injective⟩

theorem kcell_send (e : Fin 3) (c : Dev nD) : kcell (c, ksend e) = sendCell e c := by fin_cases e <;> rfl
theorem kcell_recv (e : Fin 3) (c : Dev nD) : kcell (c, krecv e) = recvCell e c := by fin_cases e <;> rfl

/-- The duties of a device's own cells: for each slot its barrier's, its send's and its receive's. -/
def dutyOf (x : Fin 3 × Fin 3) : SemLoc sig × Fin 3 := match x.2 with
  | 0 => (.reg barS, x.1)
  | 1 => (.dma (sendS x.1), 0)
  | 2 => (.dma (recvS x.1), 0)
theorem dutyOf_injective : Function.Injective dutyOf := by decide
abbrev tokOf (x : Dev nD × Fin 3 × Fin 3) : GSem nD τ sig × ℕ × Fin 3 := (((x.1 : Thread nD τ), (dutyOf x.2).1), 0, (dutyOf x.2).2)
theorem tokOf_injective : Function.Injective tokOf := by
  rintro ⟨c, j⟩ ⟨c', j'⟩ h
  have h1 : c = c' := congrArg (fun x : GSem nD τ sig × ℕ × Fin 3 => x.1.1.1) h
  have h2 : j = j' := dutyOf_injective (congrArg (fun x : GSem nD τ sig × ℕ × Fin 3 => (x.1.2, x.2.2)) h)
  rw [h1, h2]
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The tokens of device `c`'s own cells for slot `e`. -/
def ownToks (c : Dev nD) (e : Fin 3) : sProp 𝕄 :=
  iprop(dutyTok ER (barCell c) 0 e ∗ dutyTok ER (sendCell e c) 0 0 ∗ dutyTok ER (recvCell e c) 0 0)

/-- What the launch deals device `c` before the devices share. -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0))
    ∗ bigSep Finset.univ fun e : Fin 3 => ownToks c e)

/-- And after. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄))
      = bigSep Finset.univ fun c : Dev nD => bigSep Finset.univ fun e : Fin 3 => ownToks c e := by
    unfold xToks; rw [bigSep_map, bigSep_univ_prod]
    refine bigSep_congr fun c _ => ?_
    rw [bigSep_univ_prod]
    exact bigSep_congr fun e _ => by unfold ownToks; rw [bigSep_fin3]; rfl
  iintro HX
  imod (Rounds.fund ER (rd m ρ) xCells xToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨H, HB⟩
  isplitl [HB]; · iexact HB
  iexact H

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0))
          ∗ bigSep Finset.univ fun e : Fin 3 => ownToks c e) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Sharing -/

/-- All the invariants and marks, which every device may use. -/
def records (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem record_inv (K : Dev nD × Fin 7 → ℕ) (ck : Dev nD × Fin 7) {g : GSem nD τ sig} (hg : kcell ck = g) :
    records m ρ K ⊢ cellInv ER (rd m ρ) (K ck) g := by
  subst hg; unfold records
  exact sep_elim_left.trans (bigSep_elim (Finset.mem_univ ck))
omit [FloatOps F] in
theorem record_reached (K : Dev nD × Fin 7 → ℕ) (ck : Dev nD × Fin 7) {g : GSem nD τ sig} (hg : kcell ck = g) :
    records m ρ K ⊢ reached ER g 0 := by
  subst hg; unfold records
  exact sep_elim_right.trans (bigSep_elim (Finset.mem_univ ck))

omit [FloatOps F] in
theorem record_slot (K : Dev nD × Fin 7 → ℕ) (c : Dev nD) (e : Fin 3) : records m ρ K ⊢ slotFacts m ρ K c e := by
  unfold slotFacts
  iintro #H
  isplitr
  · isplitr; · iapply (record_inv m ρ K (c, ksend e) (kcell_send e c)); iexact H
    isplitr; · iapply (record_inv m ρ K (c, krecv e) (kcell_recv e c)); iexact H
    isplitr; · iapply (record_inv m ρ K (fwd e c, krecv e) (kcell_recv e _)); iexact H
    iapply (record_inv m ρ K (bwd e c, 0) rfl); iexact H
  isplitr; · iapply (record_reached m ρ K (bwd e c, 0) rfl); iexact H
  isplitr; · iapply (record_reached m ρ K (c, ksend e) (kcell_send e c)); iexact H
  iapply (record_reached m ρ K (c, krecv e) (kcell_recv e c)); iexact H

/-- What is one device's alone. -/
def linear (c : Dev nD) : sProp 𝕄 :=
  iprop((bigSep Finset.univ fun k : Fin 7 => atPos ER (kcell (c, k)) 0 ∅ 0) ∗ bigSep Finset.univ fun e : Fin 3 => payToks c e)

omit [FloatOps F] in
theorem ghost_intro (K : Dev nD × Fin 7 → ℕ) (c : Dev nD) : iprop(records m ρ K ∗ linear c) ⊢ G' m ρ c := by
  unfold linear G' ghost slotAt
  rw [bigSep_fin7, bigSep_fin3]
  iintro ⟨#H, ⟨HaB, HaS0, HaS1, HaS2, HaV0, HaV1, HaV2⟩, Ht⟩
  iexists K
  isplitr
  · isplitr; · iapply (record_inv m ρ K (c, 0) rfl); iexact H
    isplitr; · iapply (record_slot m ρ K c 0); iexact H
    isplitr; · iapply (record_slot m ρ K c 1); iexact H
    iapply (record_slot m ρ K c 2); iexact H
  isplitr [Ht]
  · isplitl [HaB]; · iexact HaB
    isplitl [HaS0 HaV0]; · isplitl [HaS0] <;> iassumption
    isplitl [HaS1 HaV1]; · isplitl [HaS1] <;> iassumption
    isplitl [HaS2] <;> iassumption
  iexact Ht

omit [FloatOps F] in
/-- Every token goes to the device that pays it: a barrier's token of slot `e` to the device that will be sent block `e`,
    a receive cell's to the device that sends. -/
theorem toks_around :
    (bigSep Finset.univ fun c : Dev nD => bigSep Finset.univ fun e : Fin 3 => (ownToks c e : sProp 𝕄))
      ⊢ bigSep Finset.univ fun c : Dev nD => bigSep Finset.univ fun e : Fin 3 => payToks c e := by
  have slot (e : Fin 3) : (bigSep Finset.univ fun c : Dev nD => (ownToks c e : sProp 𝕄)) ⊢ bigSep Finset.univ fun c : Dev nD => payToks c e := by
    unfold ownToks payToks
    rw [bigSep_sep', bigSep_sep', bigSep_sep', bigSep_sep',
      bigSep_univ_equiv (turn e).symm (fun c : Dev nD => (dutyTok ER (barCell c) 0 e : sProp 𝕄)),
      bigSep_univ_equiv (turn e) (fun c : Dev nD => (dutyTok ER (recvCell e c) 0 0 : sProp 𝕄))]
    iintro ⟨H1, H2, H3⟩
    isplitl [H1]; · iexact H1
    isplitl [H3]; · iexact H3
    iexact H2
  rw [bigSep_congr (s := Finset.univ) (fun (c : Dev nD) _ => bigSep_fin3 fun e => (ownToks c e : sProp 𝕄)),
    bigSep_congr (s := Finset.univ) (fun (c : Dev nD) _ => bigSep_fin3 fun e => (payToks c e : sProp 𝕄)),
    bigSep_sep', bigSep_sep', bigSep_sep', bigSep_sep']
  exact BI.sep_mono (slot 0) (BI.sep_mono (slot 1) (slot 2))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0))
          ∗ bigSep Finset.univ fun e : Fin 3 => ownToks c e) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · unfold linear
    rw [bigSep_sep']
    isplitl [Hat]; · iexact Hat
    iexact Htk

omit [FloatOps F] in
/-- The update over all the devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem bar_iff {a b : Dev nD} : barCell a = barCell b ↔ a = b :=
  ⟨fun h => congrArg (fun g : GSem nD τ sig => g.1.1) h, fun h => h ▸ rfl⟩
theorem recv_iff {e e' : Fin 3} {a b : Dev nD} : recvCell e a = recvCell e' b ↔ e = e' ∧ a = b := by
  refine ⟨fun h => ⟨?_, congrArg (fun g : GSem nD τ sig => g.1.1) h⟩, fun h => by rw [h.1, h.2]⟩
  have h1 : SemLoc.dma (recvS e) = SemLoc.dma (recvS e') := congrArg Prod.snd h
  have h2 : recvS e = recvS e' := by injection h1
  have h3 := congrArg Fin.val h2
  rw [recvS_val, recvS_val] at h3
  exact Fin.ext (by omega)
theorem bar_ne_recv {e : Fin 3} {a b : Dev nD} : ¬ barCell a = recvCell e b := fun h => by
  have := congrArg Prod.snd h; cases this
theorem recv_ne_bar {e : Fin 3} {a b : Dev nD} : ¬ recvCell e a = barCell b := fun h => bar_ne_recv h.symm

theorem eq_bwd_iff {e : Fin 3} {a b : Dev nD} : a = bwd e b ↔ b = fwd e a := eq_fwd_iff.symm

/-- What device `d` owes device `c`'s cells. -/
theorem owed_bar (d c : Dev nD) :
    O₀ d (barCell c) () = (if d = fwd 0 c then 1 else 0) + (if d = fwd 1 c then 1 else 0) + (if d = fwd 2 c then 1 else 0) := by
  unfold O₀ O₃
  simp only [Pi.add_apply, Finsupp.add_apply, Pi.zero_apply, Finsupp.zero_apply, tallyAt_apply, bar_ne_recv, bar_iff, eq_bwd_iff, false_and, if_false,
    and_true, Nat.zero_add]

theorem owed_recv (e : Fin 3) (d c : Dev nD) : O₀ d (recvCell e c) () = if d = bwd e c then N else 0 := by
  unfold O₀ O₃
  simp only [Pi.add_apply, Finsupp.add_apply, Pi.zero_apply, Finsupp.zero_apply, tallyAt_apply, recv_ne_bar, recv_iff, eq_fwd_iff, false_and, if_false,
    and_true, Nat.zero_add, Nat.add_zero]
  fin_cases e <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (fwd 0 c) fun _ => 1, Finset.sum_ite_eq' Finset.univ (fwd 1 c) fun _ => 1, Finset.sum_ite_eq' Finset.univ (fwd 2 c) fun _ => 1,
    if_pos (Finset.mem_univ _), if_pos (Finset.mem_univ _), if_pos (Finset.mem_univ _)]

theorem launch_recv (e : Fin 3) (c : Dev nD) :
    tallyOn (recvCell e c) (launchCredit (Pipeline.owing O₀) 0 (recvCell e c)) = (tallyAt (recvCell e c) () N : CellTallies nD τ sig Unit) := by
  unfold tallyAt; refine congrArg _ (Finsupp.ext fun u => ?_); cases u
  rw [Pipeline.launchCredit_owing, Finsupp.single_eq_same, Finset.sum_congr rfl fun d _ => owed_recv e d c, Finset.sum_ite_eq' Finset.univ (bwd e c) fun _ => N,
    if_pos (Finset.mem_univ _)]

omit [FloatOps F] in
theorem creds (c : Dev nD) : (Pipeline.launchCred O₀ c : sProp 𝕄) ⊢ credits c := by
  unfold Pipeline.launchCred credits
  rw [bigSep_univ_at _ (SemLoc.reg barS), launch_bar, ← launch_recv 0, ← launch_recv 1, ← launch_recv 2,
    bigSep_erase (i := SemLoc.dma (recvS 0)) (by decide), bigSep_erase (i := SemLoc.dma (recvS 1)) (by decide)]
  refine sep_mono_right (sep_mono_right (sep_mono_right ?_))
  exact bigSep_elim (i := SemLoc.dma (recvS 2)) (by decide)

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch closed
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- On every device every array ends as the pipeline's data say. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and any memory, every fair execution of the four devices' program ends, every array as `finalA`
    says and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      icases (ownU_pair _ _) $$ Hu with ⟨HP, HX⟩
      imod (fund_x m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs end as they were. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdealProof

end
-- ==== Proof.Silu.lean ====
/-
# Arithmetic over the extended reals used by the value claims

The activation `y / (1 + exp (-y))`, the clip at ±60, and a sum over 1024 terms taken in four blocks of 256.
-/
module

public import Idealize.ShloMosaic.Lib.IdealHost

@[expose] public section

noncomputable section

namespace Cert.SiluFacts

open Idealize.ShloMosaic
open scoped BigOperators

/-- `y / (1 + exp (-y))`. -/
def silu (y : EReal) : EReal := Ideal.div y (1 + Ideal.exp (-y))

theorem exp_nonneg (y : EReal) : 0 ≤ Ideal.exp y := by
  induction y using EReal.rec with
  | bot => exact le_refl _
  | coe r => exact EReal.coe_nonneg.2 (Real.exp_pos r).le
  | top => exact le_top

theorem denominator_ne_zero (y : EReal) : 1 + Ideal.exp (-y) ≠ 0 := fun h => by
  have h1 : (1 : EReal) ≤ 1 + Ideal.exp (-y) := le_add_of_nonneg_right (exp_nonneg _)
  rw [h] at h1
  exact absurd h1 (not_le.2 zero_lt_one)

/-- A value times its logistic is the quotient, at the infinities too. -/
theorem mul_logistic (y : EReal) : y * Ideal.logistic y = silu y := Ideal.mul_one_div (denominator_ne_zero y)

theorem bits_sixty : Ideal.ofBits .f32 0x42700000#32 = ((60 : ℝ) : EReal) := by
  simp [Ideal.ofBits, Ideal.ieee, -EReal.coe_mul]; norm_num
theorem bits_neg_sixty : Ideal.ofBits .f32 0xC2700000#32 = ((-60 : ℝ) : EReal) := by
  simp [Ideal.ofBits, Ideal.ieee, -EReal.coe_mul, -EReal.coe_neg]; norm_num
theorem bits_fifteen : Ideal.ofBits .f32 0x41700000#32 = ((15 : ℝ) : EReal) := by
  simp [Ideal.ofBits, Ideal.ieee, -EReal.coe_mul]; norm_num

/-- Four values of size at most 15 sum to a value the clip at ±60 leaves alone. -/
theorem clip_sum (p : Fin 4 → EReal) (h : ∀ s, max (p s) (-(p s)) ≤ ((15 : ℝ) : EReal)) :
    min ((60 : ℝ) : EReal) (max ((-60 : ℝ) : EReal) (∑ s, p s)) = ∑ s, p s := by
  have hi (s : Fin 4) : p s ≤ ((15 : ℝ) : EReal) := (le_max_left _ _).trans (h s)
  have lo (s : Fin 4) : ((-15 : ℝ) : EReal) ≤ p s := by
    rw [EReal.coe_neg]; exact EReal.neg_le.1 ((le_max_right _ _).trans (h s))
  have up : ∑ s, p s ≤ ((60 : ℝ) : EReal) := by
    rw [Fin.sum_univ_four, show ((60 : ℝ) : EReal) = ((15 : ℝ) : EReal) + ((15 : ℝ) : EReal) + ((15 : ℝ) : EReal) + ((15 : ℝ) : EReal) by
      rw [← EReal.coe_add, ← EReal.coe_add, ← EReal.coe_add]; norm_num]
    exact add_le_add (add_le_add (add_le_add (hi 0) (hi 1)) (hi 2)) (hi 3)
  have down : ((-60 : ℝ) : EReal) ≤ ∑ s, p s := by
    rw [Fin.sum_univ_four, show ((-60 : ℝ) : EReal) = ((-15 : ℝ) : EReal) + ((-15 : ℝ) : EReal) + ((-15 : ℝ) : EReal) + ((-15 : ℝ) : EReal) by
      rw [← EReal.coe_add, ← EReal.coe_add, ← EReal.coe_add]; norm_num]
    exact add_le_add (add_le_add (add_le_add (lo 0) (lo 1)) (lo 2)) (lo 3)
  rw [max_eq_right down, min_eq_right up]

/-- Position `k` of block `s`, among four blocks of 256. -/
def at4 (s : Fin 4) (k : Fin 256) : Fin 1024 := ⟨256 * s.val + k.val, by omega⟩

/-- A sum over 1024 positions, block by block. -/
theorem sum_blocks (f : Fin 1024 → EReal) : ∑ k, f k = ∑ s : Fin 4, ∑ k : Fin 256, f (at4 s k) := by
  rw [← Fintype.sum_prod_type' (f := fun s k => f (at4 s k)), ← Equiv.sum_comp (finProdFinEquiv (m := 4) (n := 256))]
  exact Finset.sum_congr rfl fun x _ => congrArg f (Fin.ext (by show x.2.val + 256 * x.1.val = 256 * x.1.val + x.2.val; omega))

/-- The four blocks' terms in any of the orders in which a device meets them. -/
theorem sum_four_from (p : Fin 4 → EReal) (a b c d : Fin 4) (h : ({a, b, c, d} : Finset (Fin 4)) = Finset.univ) :
    p a + p b + p c + p d = ∑ s, p s := by
  have hs : Function.Bijective ![a, b, c, d] := by revert h; revert a b c d; decide
  rw [← Equiv.sum_comp (Equiv.ofBijective _ hs), Fin.sum_univ_four]; rfl

end Cert.SiluFacts

end
-- ==== Proof.KernelIdealValue.lean ====
/-
# What the kernel's result is, at the exact values

Every device's block of `x` and copy of `w` taken from two whole matrices, device `c`'s result at row `r` and column `l` is
the activation of the whole product at row `256 c + r` and column `l`: the four blocks of rows of `w` that a device
multiplies are all of them, in an order that starts at its own.
-/
module

public import proofs.«01_k».proof.Proof.KernelIdealLaunch
public import proofs.«01_k».proof.Proof.Silu
public import Idealize.ShloMosaic.Lib.MatmulPlain

@[expose] public section

noncomputable section

namespace Cert.KernelIdealProof

open Cert.KernelIdeal Cert.KernelIdeal.Gen Cert.SiluFacts

open Idealize.ShloMosaic Idealize.ShloMosaic.ValueIdx
open Idealize.ShloMosaic.TcCoe
open Idealize.SL.Sem
open Idealize.ShloMosaic.Pipeline (Dat Cfg Window)
open scoped BigOperators

section Reads

variable {F : FTy → Type} [FloatOps F]
variable (m : (ℓ : Loc nD τ sig) → Buf (Elt F) ℓ) (ρ : Dev nD → PrngReg)

/-! ## The buffers, at an index -/

omit [FloatOps F] in
theorem xstg_eq (c : Dev nD) : xstg m ρ c = m ((c : Thread nD τ).loc main_arg0) :=
  Memref.read_access_unit_zero (Elt F) main_arg0 (funext fun a => by fin_cases a <;> decide) (fun a => by fin_cases a <;> decide) _
omit [FloatOps F] in
theorem wstg_eq (c : Dev nD) : wstg m ρ c = m ((c : Thread nD τ).loc main_arg1) :=
  Memref.read_access_unit_zero (Elt F) main_arg1 (funext fun a => by fin_cases a <;> decide) (fun a => by fin_cases a <;> decide) _

/-- The result array's one block is the whole array, and the body's result is what it ends holding. -/
theorem finalA_o (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (Memref.read_access_unit_zero (Elt F) main_v1 (funext fun a => by fin_cases a <;> decide) (fun a => by fin_cases a <;> decide) _).symm.trans h

omit [FloatOps F] in
theorem xOwn_at (c : Dev nD) (r k : Fin 256) : xOwn m ρ c (ix2 r k) = xstg m ρ c (ix2 (at4 c r) k) := by
  unfold xOwn
  show xstg m ρ c _ = _
  refine congrArg (xstg m ρ c) (funext fun a => Fin.ext ?_)
  have h := k0_off2_eq c
  fin_cases a
  · show k0_off2 c 0 + 1 * r.val = 256 * c.val + r.val
    rw [h]; show 256 * c.val + 1 * r.val = _; omega
  · show k0_off2 c 1 + 1 * k.val = k.val
    rw [h]; show 0 + 1 * k.val = _; omega

omit [FloatOps F] in
theorem wOwn_at (c : Dev nD) (k : Fin 256) (l : Fin 1024) : wOwn m ρ c (ix2 k l) = wstg m ρ c (ix2 (at4 c k) l) := by
  unfold wOwn
  show wstg m ρ c _ = _
  refine congrArg (wstg m ρ c) (funext fun a => Fin.ext ?_)
  have h := k0_off3_eq c
  fin_cases a
  · show k0_off3 c 0 + 1 * k.val = 256 * c.val + k.val
    rw [h]; show 256 * c.val + 1 * k.val = _; omega
  · show k0_off3 c 1 + 1 * l.val = l.val
    rw [h]; show 0 + 1 * l.val = _; omega

omit [FloatOps F] in
theorem wRow_at (e : Fin 3) (c : Dev nD) (k : Fin 256) (l : Fin 1024) : wRow m ρ e c (ix2 k l) = wstg m ρ c (ix2 (at4 (bwd e c) k) l) := by
  unfold wRow
  show wstg m ρ c _ = _
  refine congrArg (wstg m ρ c) (funext fun a => Fin.ext ?_)
  have h := k0_off4_eq c e
  fin_cases a
  · show k0_off4 c (BitVec.ofNat 32 (1 + e.val)) 0 + 1 * k.val = 256 * (((c.val + 3) - e.val) % 4) + k.val
    rw [h]; show 256 * (((c.val + 3) - e.val) % 4) + 1 * k.val = _; omega
  · show k0_off4 c (BitVec.ofNat 32 (1 + e.val)) 1 + 1 * l.val = l.val
    rw [h]; show 0 + 1 * l.val = _; omega

omit [FloatOps F] in
theorem blk_at (e : Fin 3) (c : Dev nD) (r k : Fin 256) : blk m ρ e c (ix2 r k) = xstg m ρ (bwd e c) (ix2 (at4 c r) k) := by
  unfold blk
  show xstg m ρ (bwd e c) _ = _
  refine congrArg (xstg m ρ (bwd e c)) (funext fun a => Fin.ext ?_)
  have h := k0_off1_eq (bwd e c) e
  have hc : ((bwd e c).val + e.val + 1) % 4 = c.val := congrArg Fin.val (fwd_bwd e c)
  fin_cases a
  · show k0_off1 (bwd e c) (BitVec.ofNat 32 (1 + e.val)) 0 + 1 * r.val = 256 * c.val + r.val
    rw [h]; show 256 * (((bwd e c).val + e.val + 1) % 4) + 1 * r.val = _; rw [hc]; omega
  · show k0_off1 (bwd e c) (BitVec.ofNat 32 (1 + e.val)) 1 + 1 * k.val = k.val
    rw [h]; show 0 + 1 * k.val = _; omega

omit [FloatOps F] in
theorem up_down (v : Vec F S256x256 .bf16) : shapeCast S256x256 (up v) shapeCasts_S1x256x256_S256x256 = v :=
  shapeCast_shapeCast _ _ _

end Reads

/-! ## The sums -/

variable (m : (ℓ : Loc nD τ sig) → Buf (Elt Ideal) ℓ) (ρ : Dev nD → PrngReg)

/-- The product over block `s` of the contracted positions. -/
def part (X W : (⟨2, ![1024, 1024]⟩ : Shape).Idx → EReal) (s : Fin 4) (R l : Fin 1024) : EReal :=
  ∑ k : Fin 256, X (ix2 R (at4 s k)) * W (ix2 (at4 s k) l)

/-- The product of two matrices at an entry. -/
def prod (X W : (⟨2, ![1024, 1024]⟩ : Shape).Idx → EReal) (R l : Fin 1024) : EReal :=
  ∑ k : Fin 1024, X (ix2 R k) * W (ix2 k l)

theorem prod_eq_parts (X W : (⟨2, ![1024, 1024]⟩ : Shape).Idx → EReal) (R l : Fin 1024) :
    prod X W R l = ∑ s, part X W s R l := sum_blocks _

/-- A product of two blocks into a zero accumulator. -/
abbrev times (A : FVec Ideal S256x256 .bf16) (B : FVec Ideal S256x1024 .bf16) : FVec Ideal S256x1024 .f32 :=
  matmul dot_S256x256_S256x1024_S256x1024_1_0_0_1_n_n none A B (constant S256x1024 .f32 0x00000000#32)

/-- It, at an entry. -/
theorem matmul_at (A : FVec Ideal S256x256 .bf16) (B : FVec Ideal S256x1024 .bf16) (r : Fin 256) (l : Fin 1024) :
    times A B (ix2 r l) = ∑ k : Fin 256, (A (ix2 r k) : EReal) * (B (ix2 k l) : EReal) := by
  refine (Ideal.matmul_plain_apply (M := 256) (K := 256) (N := 1024) none A B (constant S256x1024 .f32 0x00000000#32) r l).trans ?_
  show Ideal.ofBits .f32 0x00000000#32 + _ = _
  rw [Ideal.ofBits_zero_f32, zero_add]

variable {X W : (⟨2, ![1024, 1024]⟩ : Shape).Idx → EReal}

/-- The block of `x` on device `c`, at an entry of the whole. -/
theorem xstg_at (hX : ∀ c : Dev nD, m ((c : Thread nD τ).loc main_arg0) = Layout.block ⟨2, ![1024, 256]⟩ ⟨2, ![1024, 1024]⟩ 1 4 c X)
    (c : Dev nD) (R : Fin 1024) (k : Fin 256) : xstg m ρ c (ix2 R k) = X (ix2 R (at4 c k)) := by
  rw [xstg_eq, hX c]
  refine congrArg X (funext fun a => Fin.ext ?_)
  fin_cases a
  · rfl
  · show c.val * 256 + k.val = 256 * c.val + k.val; omega

theorem own_part (hX : ∀ c : Dev nD, m ((c : Thread nD τ).loc main_arg0) = Layout.block ⟨2, ![1024, 256]⟩ ⟨2, ![1024, 1024]⟩ 1 4 c X)
    (hW : ∀ c : Dev nD, m ((c : Thread nD τ).loc main_arg1) = W) (c : Dev nD) (r : Fin 256) (l : Fin 1024) :
    times (xOwn m ρ c) (wOwn m ρ c) (ix2 r l) = part X W c (at4 c r) l := by
  rw [matmul_at]
  exact Finset.sum_congr rfl fun k _ => by rw [xOwn_at, wOwn_at, xstg_at m ρ hX, wstg_eq, hW]

theorem slot_part (hX : ∀ c : Dev nD, m ((c : Thread nD τ).loc main_arg0) = Layout.block ⟨2, ![1024, 256]⟩ ⟨2, ![1024, 1024]⟩ 1 4 c X)
    (hW : ∀ c : Dev nD, m ((c : Thread nD τ).loc main_arg1) = W) (e : Fin 3) (c : Dev nD) (r : Fin 256) (l : Fin 1024) :
    times (shapeCast S256x256 (up (blk m ρ e c)) shapeCasts_S1x256x256_S256x256) (wRow m ρ e c) (ix2 r l)
      = part X W (bwd e c) (at4 c r) l := by
  rw [up_down, matmul_at]
  exact Finset.sum_congr rfl fun k _ => by rw [blk_at, wRow_at, xstg_at m ρ hX, wstg_eq, hW]

theorem all_blocks : ∀ c : Dev nD, ({c, bwd 0 c, bwd 1 c, bwd 2 c} : Finset (Fin 4)) = Finset.univ := by decide

/-- Device `c`'s result at an entry: the activation of the whole product. -/
theorem outAt_at (hX : ∀ c : Dev nD, m ((c : Thread nD τ).loc main_arg0) = Layout.block ⟨2, ![1024, 256]⟩ ⟨2, ![1024, 1024]⟩ 1 4 c X)
    (hW : ∀ c : Dev nD, m ((c : Thread nD τ).loc main_arg1) = W) (c : Dev nD) (r : Fin 256) (l : Fin 1024) :
    outAt m ρ c (ix2 r l) = silu (prod X W (at4 c r) l) := by
  have h : ∀ y : EReal, y = prod X W (at4 c r) l → y * Ideal.logistic y = silu (prod X W (at4 c r) l) := fun y hy => by
    rw [hy, mul_logistic]
  refine h _ ?_
  rw [prod_eq_parts, ← sum_four_from (fun s => part X W s (at4 c r) l) c (bwd 0 c) (bwd 1 c) (bwd 2 c) (all_blocks c)]
  exact congrArg₂ (fun a b : EReal => a + b) (congrArg₂ (fun a b : EReal => a + b) (congrArg₂ (fun a b : EReal => a + b)
    (own_part m ρ hX hW c r l) (slot_part m ρ hX hW 0 c r l)) (slot_part m ρ hX hW 1 c r l)) (slot_part m ρ hX hW 2 c r l)

/-- The whole result: the activation of the product, entry by entry. -/
def whole (X W : (⟨2, ![1024, 1024]⟩ : Shape).Idx → EReal) : (⟨2, ![1024, 1024]⟩ : Shape).Idx → EReal :=
  fun i => silu (prod X W (i 0) (i 1))

/-- Device `c`'s result is block `c` of the rows of the whole result. -/
theorem out_block (hX : ∀ c : Dev nD, m ((c : Thread nD τ).loc main_arg0) = Layout.block ⟨2, ![1024, 256]⟩ ⟨2, ![1024, 1024]⟩ 1 4 c X)
    (hW : ∀ c : Dev nD, m ((c : Thread nD τ).loc main_arg1) = W) (c : Dev nD) :
    outAt m ρ c = Layout.block ⟨2, ![256, 1024]⟩ ⟨2, ![1024, 1024]⟩ 0 4 c (whole X W) := by
  funext i
  obtain ⟨r, l, rfl⟩ : ∃ (r : Fin 256) (l : Fin 1024), i = ix2 r l := ⟨i 0, i 1, funext fun a => by fin_cases a <;> rfl⟩
  rw [outAt_at m ρ hX hW]
  refine congrArg silu (congrArg₂ (prod X W) (Fin.ext ?_) rfl)
  show 256 * c.val + r.val = c.val * 256 + r.val; omega

/-- The run, read at the arguments and the result. -/
theorem run_values (hX : ∀ c : Dev nD, m ((c : Thread nD τ).loc main_arg0) = Layout.block ⟨2, ![1024, 256]⟩ ⟨2, ![1024, 1024]⟩ 1 4 c X)
    (hW : ∀ c : Dev nD, m ((c : Thread nD τ).loc main_arg1) = W) :
    θ_run defs (onTc (τ := τ) (main (F := Ideal))) (s₀ m ρ) fun r => ∀ c : Dev nD,
      r.2.mem ((c : Thread nD τ).loc main_v1) = Layout.block ⟨2, ![256, 1024]⟩ ⟨2, ![1024, 1024]⟩ 0 4 c (whole X W)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c (2 : Fin 3)).trans ((finalA_o m ρ c).trans (out_block m ρ hX hW c)),
    (h.1 c (0 : Fin 3)).trans (finalA_x m ρ c), (h.1 c (1 : Fin 3)).trans (finalA_w m ρ c)⟩) (run_main m ρ)

end Cert.KernelIdealProof

end
-- ==== Proof.ReferenceValue.lean ====
/-
# What the two references compute, at the exact values

Without the clip the result is the activation of the product at every entry. With the clip it is the same wherever the clip
leaves the product alone, and the precondition, read over the four devices, bounds the four parts of every entry by 15 each,
hence the entry by 60.
-/
module

public import proofs.«01_k».proof.Proof.KernelIdealValue
public import proofs.«01_k».proof.Defs
public import proofs.«01_k».proof.Proof.Gen.ReferenceIdeal.Run
public import proofs.«01_k».proof.Proof.Gen.UnclippedIdeal.Run
public import proofs.«01_k».proof.Proof.Gen.Pre_parts_small_KernelIdeal
public import Idealize.ShloMosaic.Lib.StackMember
public import Idealize.ShloMosaic.Lib.ValueLayout

@[expose] public section

noncomputable section

open Idealize.ShloMosaic Idealize.ShloMosaic.ValueIdx Idealize.ShloMosaic.StackMember
open Idealize.ShloMosaic.TcCoe
open Idealize.SL.Sem
open Cert.SiluFacts
open scoped BigOperators

namespace Cert.ReferenceValue

open Cert.KernelIdealProof (part prod prod_eq_parts whole)

/-- The shape of the whole arrays. -/
abbrev Square : Shape := ⟨2, ![1024, 1024]⟩

/-! ## Without the clip -/

section Unclipped

open Cert.UnclippedIdeal Cert.UnclippedIdeal.Gen

/-- The reference's product. -/
abbrev plainDot (X W : FVec Ideal S1024x1024 .bf16) : FVec Ideal S1024x1024 .f32 :=
  Host.dotGeneral dot_S1024x1024_S1024x1024_S1024x1024_1_0_0_1_n_n none (extf .f32 X bitsLt_bf16_f32) (extf .f32 W bitsLt_bf16_f32)

/-- It, at an entry. -/
theorem plainDot_at (X W : FVec Ideal S1024x1024 .bf16) (R l : Fin 1024) : plainDot X W (ix2 R l) = prod X W R l :=
  dotGeneral_plain_apply (m := 1024) (n := 1024) (k := 1024) none (extf .f32 X bitsLt_bf16_f32) (extf .f32 W bitsLt_bf16_f32) R l

/-- The quotient the reference forms is the activation of the product. -/
theorem unclipped_whole (X W : FVec Ideal S1024x1024 .bf16) :
    Host.divf (plainDot X W) (addf (broadcastInDim S1024x1024 ![] bcast_S_S1024x1024 (constant S_ .f32 0x3F800000#32)) (Host.exp (Host.negf (plainDot X W))))
      = whole X W := by
  funext i
  obtain ⟨R, l, rfl⟩ : ∃ (R l : Fin 1024), i = ix2 R l := ⟨i 0, i 1, funext fun a => by fin_cases a <;> rfl⟩
  show Ideal.div (plainDot X W (ix2 R l)) (Ideal.ofBits .f32 0x3F800000#32 + Ideal.exp (-(plainDot X W (ix2 R l)))) = silu (prod X W R l)
  rw [plainDot_at, Ideal.ofBits_one_f32]; rfl

end Unclipped

/-! ## With the clip -/

section Clipped

open Cert.ReferenceIdeal Cert.ReferenceIdeal.Gen

/-- The clipped reference's product. -/
abbrev clipDot (X W : FVec Ideal S1024x1024 .bf16) : FVec Ideal S1024x1024 .f32 :=
  Host.dotGeneral dot_S1024x1024_S1024x1024_S1024x1024_1_0_0_1_n_n none (extf .f32 X bitsLt_bf16_f32) (extf .f32 W bitsLt_bf16_f32)

/-- It, at an entry. -/
theorem clipDot_at (X W : FVec Ideal S1024x1024 .bf16) (R l : Fin 1024) : clipDot X W (ix2 R l) = prod X W R l :=
  dotGeneral_plain_apply (m := 1024) (n := 1024) (k := 1024) none (extf .f32 X bitsLt_bf16_f32) (extf .f32 W bitsLt_bf16_f32) R l

/-- With every part of every entry at most 15 in size, the clipped quotient is the activation of the product. -/
theorem clipped_whole (X W : FVec Ideal S1024x1024 .bf16)
    (h : ∀ s R l, max (part X W s R l) (-(part X W s R l)) ≤ ((15 : ℝ) : EReal)) :
    Host.divf (clipDot X W) (addf (broadcastInDim S1024x1024 ![] bcast_S_S1024x1024 (constant S_ .f32 0x3F800000#32))
        (Host.exp (Host.negf (minimumf (broadcastInDim S1024x1024 ![] bcast_S_S1024x1024 (id (constant S_ .f32 0x42700000#32)))
          (maximumf (broadcastInDim S1024x1024 ![] bcast_S_S1024x1024 (id (constant S_ .f32 0xC2700000#32))) (clipDot X W))))))
      = whole X W := by
  funext i
  obtain ⟨R, l, rfl⟩ : ∃ (R l : Fin 1024), i = ix2 R l := ⟨i 0, i 1, funext fun a => by fin_cases a <;> rfl⟩
  show Ideal.div (clipDot X W (ix2 R l)) (Ideal.ofBits .f32 0x3F800000#32
      + Ideal.exp (-(min (Ideal.ofBits .f32 0x42700000#32) (max (Ideal.ofBits .f32 0xC2700000#32) (clipDot X W (ix2 R l)))))) = silu (prod X W R l)
  rw [clipDot_at, Ideal.ofBits_one_f32, bits_sixty, bits_neg_sixty, prod_eq_parts, clip_sum _ fun s => h s R l]; rfl

end Clipped

/-! ## The precondition -/

section Small

open Cert.Pre_parts_small_KernelIdeal Cert.Pre_parts_small_KernelIdeal.Gen

/-- The comparison answers one only where the order holds. -/
theorem le_of_ole {a b : EReal} (h : Ideal.cmp .ole a b = 1#1) : a ≤ b := by
  by_contra hn
  simp [Ideal.cmp, hn] at h

/-- The precondition's product of a block with a band, at an entry. -/
theorem partDot_at (A : FVec Ideal S1024x256 .f32) (B : FVec Ideal S256x1024 .f32) (R l : Fin 1024) :
    Host.dotGeneral dot_S1024x256_S256x1024_S1024x1024_1_0_0_1_n_n none A B (ix2 R l) = ∑ k : Fin 256, (A (ix2 R k) : EReal) * (B (ix2 k l) : EReal) :=
  dotGeneral_plain_apply (m := 1024) (n := 1024) (k := 256) none A B R l

/-- A band of 256 rows, at an entry. -/
theorem band_at (w : FVec Ideal S1024x1024 .f32) (o : ℕ) (s : Fin 4) (ho : o = 256 * s.val) (hs : S1024x1024.Slices ![o, 0] S256x1024)
    (k : Fin 256) (l : Fin 1024) : extractStridedSlice S256x1024 ![o, 0] w hs (ix2 k l) = w (ix2 (at4 s k) l) :=
  slice2_axis0_apply o w hs k l (at4 s k) (by subst ho; rfl)

/-- One comparison of the precondition, read at an entry: the part is at most 15 in size. -/
theorem small_at (x : FVec Ideal S1024x256 .bf16) (w : FVec Ideal S1024x1024 .bf16) (o : ℕ) (s : Fin 4) (ho : o = 256 * s.val)
    (hs : S1024x1024.Slices ![o, 0] S256x1024)
    (h : cmpf .ole (Host.absf (Host.dotGeneral dot_S1024x256_S256x1024_S1024x1024_1_0_0_1_n_n none (extf .f32 x Facts.bitsLt_bf16_f32)
        (extractStridedSlice S256x1024 ![o, 0] (extf .f32 w Facts.bitsLt_bf16_f32) hs)))
      (broadcastInDim S1024x1024 ![] Facts.bcast_S_S1024x1024 (constant S_ .f32 0x41700000#32)) = fun _ => 1#1) (R l : Fin 1024) :
    max (∑ k : Fin 256, (x (ix2 R k) : EReal) * (w (ix2 (at4 s k) l) : EReal)) (-(∑ k : Fin 256, (x (ix2 R k) : EReal) * (w (ix2 (at4 s k) l) : EReal)))
      ≤ ((15 : ℝ) : EReal) := by
  have hd : Host.dotGeneral dot_S1024x256_S256x1024_S1024x1024_1_0_0_1_n_n none (extf .f32 x Facts.bitsLt_bf16_f32)
        (extractStridedSlice S256x1024 ![o, 0] (extf .f32 w Facts.bitsLt_bf16_f32) hs) (ix2 R l)
      = ∑ k : Fin 256, (x (ix2 R k) : EReal) * (w (ix2 (at4 s k) l) : EReal) := by
    rw [partDot_at]
    refine Finset.sum_congr rfl fun k _ => ?_
    rw [band_at _ o s ho hs k l]
    rfl
  have h1 := congrFun h (ix2 R l)
  change Ideal.cmp .ole (max _ (-_)) (Ideal.ofBits .f32 0x41700000#32) = 1#1 at h1
  rw [hd, bits_fifteen] at h1
  exact le_of_ole h1

/-- A part of an entry, summed over the columns of the block of its device. -/
abbrev blockSum (X W : Square.Idx → EReal) (s : Fin 4) (R l : Fin 1024) : EReal :=
  ∑ k : Fin 256, Layout.block ⟨2, ![1024, 256]⟩ ⟨2, ![1024, 1024]⟩ 1 4 s X (by decide) (ix2 R k) * W (ix2 (at4 s k) l)

/-- It is the part, read off the whole arrays. -/
theorem blockSum_eq (X W : Square.Idx → EReal) (s : Fin 4) (R l : Fin 1024) : blockSum X W s R l = part X W s R l := by
  refine Finset.sum_congr rfl fun k _ => congrArg (fun z : EReal => z * W (ix2 (at4 s k) l)) (congrArg X (funext fun a => Fin.ext ?_))
  fin_cases a
  · rfl
  · show s.val * 256 + k.val = 256 * s.val + k.val; omega

/-- The precondition on the devices' blocks bounds every part of every entry of the whole product. -/
theorem small_of_pre (m : (ℓ : Loc Cert.KernelIdeal.nD Cert.KernelIdeal.τ Cert.KernelIdeal.sig) → Buf (Elt Ideal) ℓ)
    (X W : Square.Idx → EReal) (hm : Pre_KernelIdeal_parts_small_KernelIdeal m)
    (hX : ∀ c : Dev Cert.KernelIdeal.nD, m ((c.tc : Thread Cert.KernelIdeal.nD Cert.KernelIdeal.τ).loc Cert.KernelIdeal.main_arg0) = Layout.block ⟨2, ![1024, 256]⟩ ⟨2, ![1024, 1024]⟩ 1 4 c X)
    (hW : ∀ c : Dev Cert.KernelIdeal.nD, m ((c.tc : Thread Cert.KernelIdeal.nD Cert.KernelIdeal.τ).loc Cert.KernelIdeal.main_arg1) = W)
    (s : Fin 4) (R l : Fin 1024) : max (part X W s R l) (-(part X W s R l)) ≤ ((15 : ℝ) : EReal) := by
  have hb := hm s
  rw [hX s, hW s] at hb
  have hs : max (blockSum X W s R l) (-(blockSum X W s R l)) ≤ ((15 : ℝ) : EReal) := by
    obtain ⟨h0, h1, h2, h3⟩ := hb
    fin_cases s
    · exact small_at _ W 0 0 rfl _ h0 R l
    · exact small_at _ W 256 1 rfl _ h1 R l
    · exact small_at _ W 512 2 rfl _ h2 R l
    · exact small_at _ W 768 3 rfl _ h3 R l
  rwa [blockSum_eq] at hs

end Small

end Cert.ReferenceValue

end
-- ==== Proof.lean ====
/-
# The certificate

The frames of the kernel (at the machine's words and at the exact values) and of the two references, and the two value
claims: device `c`'s result is block `c` of the rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.UnclippedIdeal
public import proofs.«01_k».proof.Proof.Gen.Pre_parts_small_KernelIdeal
public import proofs.«01_k».proof.Proof.Gen.Pre_parts_small_ReferenceIdeal
public import proofs.«01_k».proof.Proof.Gen.ReferenceIdeal.Run
public import proofs.«01_k».proof.Proof.Gen.UnclippedIdeal.Run
public import proofs.«01_k».proof.Proof.KernelLaunch
public import proofs.«01_k».proof.Proof.KernelIdealLaunch
public import proofs.«01_k».proof.Proof.KernelIdealValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, at the machine's words, runs to its end with its arguments unchanged and every counter at zero. -/
theorem kernel_frame : quiescent_Kernel (hKernel := Cert.Kernel.Gen.facts) := fun m ρ _ =>
  (θ_run _ _ _).mono (fun _ h => ⟨fun c => ⟨(h.1 c (0 : Fin 3)).trans (Cert.KernelProof.finalA_x m ρ c),
    (h.1 c (1 : Fin 3)).trans (Cert.KernelProof.finalA_w m ρ c)⟩, h.2⟩) (Cert.KernelProof.run_main m ρ)

/-- So does the kernel at the exact values. -/
theorem ideal_frame : quiescent_KernelIdeal (hKernelIdeal := Cert.KernelIdeal.Gen.facts) := fun m ρ _ =>
  (θ_run _ _ _).mono (fun _ h => ⟨fun c => ⟨(h.1 c (0 : Fin 3)).trans (Cert.KernelIdealProof.finalA_x m ρ c),
    (h.1 c (1 : Fin 3)).trans (Cert.KernelIdealProof.finalA_w m ρ c)⟩, h.2⟩) (Cert.KernelIdealProof.run_main m ρ)

/-- So does the reference; it has no counters. -/
theorem reference_frame : quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- So does the reference without the clip. -/
theorem unclipped_frame : quiescent_UnclippedIdeal (hUnclippedIdeal := Cert.UnclippedIdeal.Gen.facts) := fun m ρ _ =>
  (θ_run _ _ _).mono (fun r h => ⟨fun c => (h c).2, sem_eq_zero_of_no_sems (by decide) r.2⟩) (Cert.UnclippedIdeal.Value.run m ρ)

/-- Where the precondition holds, the devices' results are the blocks of rows of the reference's result. -/
theorem clipped_algebraic : algebraic_KernelIdeal_ReferenceIdeal_pre_parts_small_KernelIdeal (hKernelIdeal := Cert.KernelIdeal.Gen.facts)
    (hReferenceIdeal := Cert.ReferenceIdeal.Gen.facts) (hPre_parts_small_KernelIdeal := Cert.Pre_parts_small_KernelIdeal.Gen.facts) :=
  fun m ρ m' ρ' hm hl =>
    ⟨_, Cert.KernelIdealProof.run_values m ρ (fun c => (hl c).1) (fun c => (hl c).2),
      (θ_run _ _ _).mono (fun _ h => ⟨(h 0).1.trans (Cert.ReferenceValue.clipped_whole _ _
          (Cert.ReferenceValue.small_of_pre m _ _ hm (fun c => (hl c).1) (fun c => (hl c).2))), (h 0).2⟩)
        (Cert.ReferenceIdeal.Value.run m' ρ')⟩

/-- On every input the devices' results are the blocks of rows of the result of the reference without the clip. -/
theorem unclipped_algebraic : algebraic_KernelIdeal_UnclippedIdeal (hKernelIdeal := Cert.KernelIdeal.Gen.facts)
    (hUnclippedIdeal := Cert.UnclippedIdeal.Gen.facts) :=
  fun m ρ m' ρ' _ hl =>
    ⟨_, Cert.KernelIdealProof.run_values m ρ (fun c => (hl c).1) (fun c => (hl c).2),
      (θ_run _ _ _).mono (fun _ h => ⟨(h 0).1.trans (Cert.ReferenceValue.unclipped_whole _ _), (h 0).2⟩)
        (Cert.UnclippedIdeal.Value.run m' ρ')⟩

/-- All the claims. -/
theorem claim : Cert.Claim := ⟨Cert.Kernel.Gen.facts, Cert.KernelIdeal.Gen.facts, Cert.ReferenceIdeal.Gen.facts, Cert.UnclippedIdeal.Gen.facts, Cert.Pre_parts_small_KernelIdeal.Gen.facts, Cert.Pre_parts_small_ReferenceIdeal.Gen.facts,
  kernel_frame, ideal_frame, fun m ρ _ => ideal_frame m ρ trivial, reference_frame, fun m ρ _ => reference_frame m ρ trivial, unclipped_frame,
  trivial, clipped_algebraic, unclipped_algebraic⟩

end Cert.Proof

end
